-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_temp_log2e" .f32 0x41A4E123#32 (((100 / 7) * (Real.log 2)⁻¹ : ℝ) : EReal)
  ∧ IdealRules.named_const.Statement Cert.KernelIdeal.κ "inv_temp" .f32 0x41649249#32 ((100 / 7 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x1000 : Shape := ⟨2, ![1024, 1000]⟩
abbrev S1024x64 : Shape := ⟨2, ![1024, 64]⟩
abbrev S1024 : Shape := ⟨1, ![1024]⟩
abbrev S1000x64 : Shape := ⟨2, ![1000, 64]⟩
abbrev S1000 : Shape := ⟨1, ![1000]⟩
abbrev S65536x64 : Shape := ⟨2, ![65536, 64]⟩
abbrev S65536 : Shape := ⟨1, ![65536]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1000 : S_.BroadcastsInDim S1024x1000 (![] : Fin 0 → Fin S1024x1000.rank)
  reducesTo_S1024x1000_S_d0_1 : S1024x1000.ReducesTo [0, 1] S_
  reducesTo_S65536x64_S65536_d1 : S65536x64.ReducesTo [1] S65536
  bcast_S_S65536 : S_.BroadcastsInDim S65536 (![] : Fin 0 → Fin S65536.rank)
  reducesTo_S65536_S_d0 : S65536.ReducesTo [0] S_

variable [Facts]

def fn_part1 {F : FTy → Type} [FloatOps F] (main_v10 : IVec S_ 1) (main_v14 : IVec S65536 1) (main_c_6 : IVec S_ 1) : IVec S_ 1 :=
  let main_v15 : IVec S_ 1 := (fun x v => Host.reduce IntOp.andi x v reducesTo_S65536_S_d0 h_S_) main_v14 main_c_6
  let main_v16 : IVec S_ 1 := andi main_v10 main_v15
  main_v16

def fn {F : FTy → Type} [FloatOps F] (main_arg0 : FVec F S1024x1000 .f32) (main_arg1 : FVec F S1024x64 .f32) (main_arg2 : IVec S1024 32) (main_arg3 : FVec F S1000x64 .f32) (main_arg4 : IVec S1000 1) (main_arg5 : FVec F S65536x64 .f32) (main_arg6 : IVec S65536 32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 1000#32
  let main_v3 : IVec S1024 32 := broadcastInDim S1024 ![] bcast_S_S1024 main_c_1
  let main_v4 : IVec S1024 1 := cmpi .slt main_arg2 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_cst : FVec F S_ .f32 := constant S_ .f32 0x7F800000#32
  let main_v7 : FVec F S1024x1000 .f32 := broadcastInDim S1024x1000 ![] bcast_S_S1024x1000 main_cst
  let main_v8 : IVec S1024x1000 1 := cmpf .olt main_arg0 main_v7
  let main_c_3 : IVec S_ 1 := constantI S_ 1 1#1
  let main_v9 : IVec S_ 1 := (fun x v => Host.reduce IntOp.andi x v reducesTo_S1024x1000_S_d0_1 h_S_) main_v8 main_c_3
  let main_v10 : IVec S_ 1 := andi main_v6 main_v9
  let main_v11 : FVec F S65536x64 .f32 := mulf main_arg5 main_arg5
  let main_cst_4 : FVec F S_ .f32 := constant S_ .f32 0x00000000#32
  let main_v12 : FVec F S65536 .f32 := (fun x v => Host.reduceAdd x v reducesTo_S65536x64_S65536_d1 h_S_) main_v11 main_cst_4
  let main_cst_5 : FVec F S_ .f32 := constant S_ .f32 0x40800000#32
  let main_v13 : FVec F S65536 .f32 := broadcastInDim S65536 ![] bcast_S_S65536 main_cst_5
  let main_v14 : IVec S65536 1 := cmpf .ole main_v12 main_v13
  let main_c_6 : IVec S_ 1 := constantI S_ 1 1#1
  fn_part1 (F := F) main_v10 main_v14 main_c_6
-- ==== Kernel.lean ====
abbrev S1024x1000 : Shape := ⟨2, ![1024, 1000]⟩
abbrev S1024x64 : Shape := ⟨2, ![1024, 64]⟩
abbrev S1024 : Shape := ⟨1, ![1024]⟩
abbrev S1000x64 : Shape := ⟨2, ![1000, 64]⟩
abbrev S1000 : Shape := ⟨1, ![1000]⟩
abbrev S65536x64 : Shape := ⟨2, ![65536, 64]⟩
abbrev S65536 : Shape := ⟨1, ![65536]⟩
abbrev S1000x1 : Shape := ⟨2, ![1000, 1]⟩
abbrev S1024x1 : Shape := ⟨2, ![1024, 1]⟩
abbrev S65536x1 : Shape := ⟨2, ![65536, 1]⟩
abbrev S1032x1024 : Shape := ⟨2, ![1032, 1024]⟩
abbrev S8192x64 : Shape := ⟨2, ![8192, 64]⟩
abbrev S8192x1 : Shape := ⟨2, ![8192, 1]⟩
abbrev S1032x8192 : Shape := ⟨2, ![1032, 8192]⟩
abbrev S8x8192 : Shape := ⟨2, ![8, 8192]⟩
abbrev S8192x1024 : Shape := ⟨2, ![8192, 1024]⟩
abbrev S256x64 : Shape := ⟨2, ![256, 64]⟩
abbrev S256x8192 : Shape := ⟨2, ![256, 8192]⟩
abbrev S8x128 : Shape := ⟨2, ![8, 128]⟩
abbrev S1x1000 : Shape := ⟨2, ![1, 1000]⟩
abbrev S1x1024x1 : Shape := ⟨3, ![1, 1024, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S1024x1000, .f32⟩
  | .hbm, ⟨1, _⟩ => ⟨S1024x64, .f32⟩
  | .hbm, ⟨2, _⟩ => ⟨S1024, .i32⟩
  | .hbm, ⟨3, _⟩ => ⟨S1000x64, .f32⟩
  | .hbm, ⟨4, _⟩ => ⟨S1000, .i1⟩
  | .hbm, ⟨5, _⟩ => ⟨S65536x64, .f32⟩
  | .hbm, ⟨6, _⟩ => ⟨S65536, .i32⟩
  | .hbm, ⟨7, _⟩ => ⟨S1000x1, .i1⟩
  | .hbm, ⟨8, _⟩ => ⟨S1000x1, .f32⟩
  | .hbm, ⟨9, _⟩ => ⟨S1000x64, .f32⟩
  | .hbm, ⟨10, _⟩ => ⟨S1000x64, .f32⟩
  | .hbm, ⟨11, _⟩ => ⟨S1024x1, .i32⟩
  | .hbm, ⟨12, _⟩ => ⟨S65536x1, .i32⟩
  | .hbm, ⟨13, _⟩ => ⟨S1032x1024, .f32⟩
  | .hbm, ⟨14, _⟩ => ⟨S8x128, .f32⟩
  | .hbm, ⟨15, _⟩ => ⟨S1x1, .f32⟩
  | .hbm, ⟨16, _⟩ => ⟨S_, .f32⟩
  | .local _ .vmem, ⟨0, _⟩ => ⟨S1024x64, .f32⟩
  | .local _ .vmem, ⟨1, _⟩ => ⟨S8192x64, .f32⟩
  | .local _ .vmem, ⟨2, _⟩ => ⟨S8192x64, .f32⟩
  | .local _ .vmem, ⟨3, _⟩ => ⟨S8192x1, .i32⟩
  | .local _ .vmem, ⟨4, _⟩ => ⟨S8192x1, .i32⟩
  | .local _ .vmem, ⟨5, _⟩ => ⟨S1032x1024, .f32⟩
  | .local _ .vmem, ⟨6, _⟩ => ⟨S1032x8192, .bf16⟩
  | .local _ .vmem, ⟨7, _⟩ => ⟨S1024x1000, .f32⟩
  | .local _ .vmem, ⟨8, _⟩ => ⟨S1024x64, .f32⟩
  | .local _ .vmem, ⟨9, _⟩ => ⟨S1024x1, .i32⟩
  | .local _ .vmem, ⟨10, _⟩ => ⟨S1000x64, .f32⟩
  | .local _ .vmem, ⟨11, _⟩ => ⟨S1032x1024, .f32⟩
  | .local _ .vmem, ⟨12, _⟩ => ⟨S8x128, .f32⟩
  | _, _ => ⟨S1024x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1032x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

abbrev stage1_0 : Fin 1 → Memref sig .tc .vmem S1024x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1000x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1032x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== KernelIdeal.lean ====
variable {F : FTy → Type} [FloatOps F] [Named F]
def κ : String → Option EReal := fun
  | "inv_temp" => some ((100 / 7 : ℝ) : EReal)
  | "inv_temp_log2e" => some (((100 / 7) * (Real.log 2)⁻¹ : ℝ) : EReal)
  | _ => none
-- ==== ReferenceIdeal.lean ====
abbrev S1024x1000 : Shape := ⟨2, ![1024, 1000]⟩
abbrev S1024x64 : Shape := ⟨2, ![1024, 64]⟩
abbrev S1024 : Shape := ⟨1, ![1024]⟩
abbrev S1000x64 : Shape := ⟨2, ![1000, 64]⟩
abbrev S1000 : Shape := ⟨1, ![1000]⟩
abbrev S65536x64 : Shape := ⟨2, ![65536, 64]⟩
abbrev S65536 : Shape := ⟨1, ![65536]⟩
abbrev S_ : Shape := ⟨0, ![]⟩
abbrev S1024x1 : Shape := ⟨2, ![1024, 1]⟩
abbrev S1000x1 : Shape := ⟨2, ![1000, 1]⟩
abbrev S1x1000 : Shape := ⟨2, ![1, 1000]⟩
abbrev S64x1000 : Shape := ⟨2, ![64, 1000]⟩
abbrev S64x65536 : Shape := ⟨2, ![64, 65536]⟩
abbrev S1024x65536 : Shape := ⟨2, ![1024, 65536]⟩
abbrev S1x65536 : Shape := ⟨2, ![1, 65536]⟩
abbrev S65536x1024 : Shape := ⟨2, ![65536, 1024]⟩
abbrev S1001x1024 : Shape := ⟨2, ![1001, 1024]⟩
abbrev S65536x1 : Shape := ⟨2, ![65536, 1]⟩
abbrev S1000x1024 : Shape := ⟨2, ![1000, 1024]⟩
abbrev S1001 : Shape := ⟨1, ![1001]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 239
  | .vmem => 0
  | .smem => 0
  | _ => 0

abbrev hbmTy0_0 (i : Nat) : BufTy := match i % 128 with
  | 0 => ⟨S1024x1000, .f32⟩
  | 1 => ⟨S1024x64, .f32⟩
  | 2 => ⟨S1024, .i32⟩
  | 3 => ⟨S1000x64, .f32⟩
  | 4 => ⟨S1000, .i1⟩
  | 5 => ⟨S65536x64, .f32⟩
  | 6 => ⟨S65536, .i32⟩
  | 7 => ⟨S1024x64, .f32⟩
  | 8 => ⟨S_, .f32⟩
  | 9 => ⟨S1024, .f32⟩
  | 10 => ⟨S1024x1, .f32⟩
  | 11 => ⟨S1024x1, .f32⟩
  | 12 => ⟨S_, .f32⟩
  | 13 => ⟨S1024x1, .f32⟩
  | 14 => ⟨S1024x1, .f32⟩
  | 15 => ⟨S1024x64, .f32⟩
  | 16 => ⟨S1024x64, .f32⟩
  | 17 => ⟨S1000x64, .f32⟩
  | 18 => ⟨S_, .f32⟩
  | 19 => ⟨S1000, .f32⟩
  | 20 => ⟨S1000x1, .f32⟩
  | 21 => ⟨S1000x1, .f32⟩
  | 22 => ⟨S_, .f32⟩
  | 23 => ⟨S1000x1, .f32⟩
  | 24 => ⟨S1000x1, .f32⟩
  | 25 => ⟨S1000x64, .f32⟩
  | 26 => ⟨S1000x64, .f32⟩
  | 27 => ⟨S_, .f32⟩
  | 28 => ⟨S_, .f32⟩
  | 29 => ⟨S_, .f32⟩
  | 30 => ⟨S1x1000, .i1⟩
  | 31 => ⟨S64x1000, .f32⟩
  | 32 => ⟨S1024x1000, .f32⟩
  | 33 => ⟨S1024x1000, .f32⟩
  | 34 => ⟨S1024x1000, .f32⟩
  | 35 => ⟨S_, .f32⟩
  | 36 => ⟨S_, .f32⟩
  | 37 => ⟨S1024x1000, .i1⟩
  | 38 => ⟨S1024x1000, .f32⟩
  | 39 => ⟨S1024x1000, .f32⟩
  | 40 => ⟨S_, .i32⟩
  | 41 => ⟨S65536, .i32⟩
  | 42 => ⟨S65536, .i1⟩
  | 43 => ⟨S64x65536, .f32⟩
  | 44 => ⟨S1024x65536, .f32⟩
  | 45 => ⟨S1024x65536, .f32⟩
  | 46 => ⟨S1024x65536, .f32⟩
  | 47 => ⟨S1x65536, .i1⟩
  | 48 => ⟨S_, .f32⟩
  | 49 => ⟨S_, .f32⟩
  | 50 => ⟨S1024x65536, .i1⟩
  | 51 => ⟨S1024x65536, .f32⟩
  | 52 => ⟨S1024x65536, .f32⟩
  | 53 => ⟨S_, .f32⟩
  | 54 => ⟨S1024, .f32⟩
  | 55 => ⟨S1024x1, .f32⟩
  | 56 => ⟨S1024x1, .f32⟩
  | 57 => ⟨S_, .f32⟩
  | 58 => ⟨S1024x1, .f32⟩
  | 59 => ⟨S1024x1, .i1⟩
  | 60 => ⟨S_, .f32⟩
  | 61 => ⟨S_, .f32⟩
  | 62 => ⟨S1024x1, .f32⟩
  | 63 => ⟨S1024x1, .f32⟩
  | 64 => ⟨S1024x65536, .f32⟩
  | 65 => ⟨S1024x65536, .f32⟩
  | 66 => ⟨S1024x65536, .f32⟩
  | 67 => ⟨S1x65536, .i1⟩
  | 68 => ⟨S1x65536, .f32⟩
  | 69 => ⟨S1024x65536, .f32⟩
  | 70 => ⟨S1024x65536, .f32⟩
  | 71 => ⟨S_, .i32⟩
  | 72 => ⟨S_, .i32⟩
  | 73 => ⟨S65536, .i32⟩
  | 74 => ⟨S65536, .i32⟩
  | 75 => ⟨S65536x1024, .f32⟩
  | 76 => ⟨S_, .f32⟩
  | 77 => ⟨S1001x1024, .f32⟩
  | 78 => ⟨S65536x1, .i32⟩
  | 79 => ⟨S1001x1024, .f32⟩
  | 80 => ⟨S1000x1024, .f32⟩
  | 81 => ⟨S1024x1000, .f32⟩
  | 82 => ⟨S65536, .f32⟩
  | 83 => ⟨S_, .f32⟩
  | 84 => ⟨S1001, .f32⟩
  | 85 => ⟨S65536x1, .i32⟩
  | 86 => ⟨S1001, .f32⟩
  | 87 => ⟨S1000, .f32⟩
  | 88 => ⟨S1x1000, .f32⟩
  | 89 => ⟨S_, .f32⟩
  | 90 => ⟨S1x1000, .f32⟩
  | 91 => ⟨S1x1000, .i1⟩
  | 92 => ⟨S_, .f32⟩
  | 93 => ⟨S1024x1000, .f32⟩
  | 94 => ⟨S1024x1000, .f32⟩
  | 95 => ⟨S1024x1000, .f32⟩
  | 96 => ⟨S1024x1000, .f32⟩
  | 97 => ⟨S1024x1000, .f32⟩
  | 98 => ⟨S1x1000, .f32⟩
  | 99 => ⟨S_, .f32⟩
  | 100 => ⟨S1x1000, .f32⟩
  | 101 => ⟨S1x1000, .f32⟩
  | 102 => ⟨S1x1000, .f32⟩
  | 103 => ⟨S1024x1000, .f32⟩
  | 104 => ⟨S1024x1000, .f32⟩
  | 105 => ⟨S_, .f32⟩
  | 106 => ⟨S_, .f32⟩
  | 107 => ⟨S1024x1000, .i1⟩
  | 108 => ⟨S1024x1000, .f32⟩
  | 109 => ⟨S1024x1000, .f32⟩
  | 110 => ⟨S1024x1000, .f32⟩
  | 111 => ⟨S1024x1000, .f32⟩
  | 112 => ⟨S1024x1000, .i1⟩
  | 113 => ⟨S1024x1000, .f32⟩
  | 114 => ⟨S1024x1000, .f32⟩
  | 115 => ⟨S1024x1000, .f32⟩
  | 116 => ⟨S1024x1000, .f32⟩
  | 117 => ⟨S1024x1000, .f32⟩
  | 118 => ⟨S1024x1000, .f32⟩
  | 119 => ⟨S1024x1000, .f32⟩
  | 120 => ⟨S_, .f32⟩
  | 121 => ⟨S1000, .f32⟩
  | 122 => ⟨S_, .f32⟩
  | 123 => ⟨S1000, .f32⟩
  | 124 => ⟨S1000, .f32⟩
  | 125 => ⟨S_, .f32⟩
  | 126 => ⟨S1000, .f32⟩
  | 127 => ⟨S1000, .f32⟩
  | _ => ⟨S1024x1000, .f32⟩

abbrev hbmTy0_1 (i : Nat) : BufTy := match i % 128 with
  | 0 => ⟨S1000, .f32⟩
  | 1 => ⟨S_, .f32⟩
  | 2 => ⟨S1000, .f32⟩
  | 3 => ⟨S1000, .f32⟩
  | 4 => ⟨S1x1000, .f32⟩
  | 5 => ⟨S1024x1000, .f32⟩
  | 6 => ⟨S1024x1000, .f32⟩
  | 7 => ⟨S_, .f32⟩
  | 8 => ⟨S1024, .f32⟩
  | 9 => ⟨S1024x1, .f32⟩
  | 10 => ⟨S1024x1, .f32⟩
  | 11 => ⟨S_, .f32⟩
  | 12 => ⟨S1024x1, .f32⟩
  | 13 => ⟨S1024x1, .i1⟩
  | 14 => ⟨S_, .f32⟩
  | 15 => ⟨S_, .f32⟩
  | 16 => ⟨S1024x1, .f32⟩
  | 17 => ⟨S1024x1, .f32⟩
  | 18 => ⟨S1024x1000, .f32⟩
  | 19 => ⟨S1024x1000, .f32⟩
  | 20 => ⟨S1024x1000, .f32⟩
  | 21 => ⟨S_, .f32⟩
  | 22 => ⟨S1024, .f32⟩
  | 23 => ⟨S1024, .f32⟩
  | 24 => ⟨S1024, .f32⟩
  | 25 => ⟨S1024, .f32⟩
  | 26 => ⟨S1024x1, .i32⟩
  | 27 => ⟨S_, .i32⟩
  | 28 => ⟨S1024x1, .i32⟩
  | 29 => ⟨S1024x1, .i1⟩
  | 30 => ⟨S_, .i32⟩
  | 31 => ⟨S1024x1, .i32⟩
  | 32 => ⟨S1024x1, .i32⟩
  | 33 => ⟨S1024x1, .i32⟩
  | 34 => ⟨S1024x1x1, .i32⟩
  | 35 => ⟨S1, .i32⟩
  | 36 => ⟨S_, .i32⟩
  | 37 => ⟨S1024x1x1, .i32⟩
  | 38 => ⟨S1024x1x1, .i1⟩
  | 39 => ⟨S1x1x1, .i32⟩
  | 40 => ⟨S1024x1x1, .i32⟩
  | 41 => ⟨S1024x1x1, .i1⟩
  | 42 => ⟨S1024x1x1, .i1⟩
  | 43 => ⟨S_, .i1⟩
  | 44 => ⟨S1024x1, .i1⟩
  | 45 => ⟨S1024x1, .f32⟩
  | 46 => ⟨S_, .f32⟩
  | 47 => ⟨S1024x1, .f32⟩
  | 48 => ⟨S1024x1, .f32⟩
  | 49 => ⟨S1024, .f32⟩
  | 50 => ⟨S1024, .f32⟩
  | 51 => ⟨S_, .f32⟩
  | 52 => ⟨S_, .f32⟩
  | 53 => ⟨S_, .f32⟩
  | 54 => ⟨S_, .f32⟩
  | 55 => ⟨S1x1000, .f32⟩
  | 56 => ⟨S1024x1000, .f32⟩
  | 57 => ⟨S1024x1000, .f32⟩
  | 58 => ⟨S_, .f32⟩
  | 59 => ⟨S1024, .f32⟩
  | 60 => ⟨S1024x1, .f32⟩
  | 61 => ⟨S1024x1, .f32⟩
  | 62 => ⟨S_, .f32⟩
  | 63 => ⟨S1024x1, .f32⟩
  | 64 => ⟨S1024x1, .i1⟩
  | 65 => ⟨S_, .f32⟩
  | 66 => ⟨S_, .f32⟩
  | 67 => ⟨S1024x1, .f32⟩
  | 68 => ⟨S1024x1, .f32⟩
  | 69 => ⟨S1024x1000, .f32⟩
  | 70 => ⟨S1024x1000, .f32⟩
  | 71 => ⟨S1024x1000, .f32⟩
  | 72 => ⟨S_, .f32⟩
  | 73 => ⟨S1024, .f32⟩
  | 74 => ⟨S1024, .f32⟩
  | 75 => ⟨S1024, .f32⟩
  | 76 => ⟨S1024, .f32⟩
  | 77 => ⟨S1024x1, .i32⟩
  | 78 => ⟨S_, .i32⟩
  | 79 => ⟨S1024x1, .i32⟩
  | 80 => ⟨S1024x1, .i1⟩
  | 81 => ⟨S_, .i32⟩
  | 82 => ⟨S1024x1, .i32⟩
  | 83 => ⟨S1024x1, .i32⟩
  | 84 => ⟨S1024x1, .i32⟩
  | 85 => ⟨S1024x1x1, .i32⟩
  | 86 => ⟨S1, .i32⟩
  | 87 => ⟨S_, .i32⟩
  | 88 => ⟨S1024x1x1, .i32⟩
  | 89 => ⟨S1024x1x1, .i1⟩
  | 90 => ⟨S1x1x1, .i32⟩
  | 91 => ⟨S1024x1x1, .i32⟩
  | 92 => ⟨S1024x1x1, .i1⟩
  | 93 => ⟨S1024x1x1, .i1⟩
  | 94 => ⟨S_, .i1⟩
  | 95 => ⟨S1024x1, .i1⟩
  | 96 => ⟨S1024x1, .f32⟩
  | 97 => ⟨S_, .f32⟩
  | 98 => ⟨S1024x1, .f32⟩
  | 99 => ⟨S1024x1, .f32⟩
  | 100 => ⟨S1024, .f32⟩
  | 101 => ⟨S1024, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | _ => ⟨S1024x1000, .f32⟩

abbrev hbmTy (i : Nat) : BufTy := match i / 128 with
  | 0 => hbmTy0_0 i
  | 1 => hbmTy0_1 i
  | _ => ⟨S1024x1000, .f32⟩

abbrev bufTy : (tb : Table) → Fin (tcTables nBuf tb) → BufTy
  | .hbm, ⟨i, _⟩ => hbmTy i
  | _, _ => ⟨S1024x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_call3_v0 : Ref sig .tc := ⟨.hbm, 72, rfl⟩
abbrev main_call3_v1 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_16 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_cst_18 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_20 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_call5_v0 : Ref sig .tc := ⟨.hbm, 143, rfl⟩
abbrev main_call5_v1 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_24 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_call6_c : Ref sig .tc := ⟨.hbm, 155, rfl⟩
abbrev main_call6_v0 : Ref sig .tc := ⟨.hbm, 156, rfl⟩
abbrev main_call6_v1 : Ref sig .tc := ⟨.hbm, 157, rfl⟩
abbrev main_call6_c_0 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_call6_v5 : Ref sig .tc := ⟨.hbm, 162, rfl⟩
abbrev main_call6_c_1 : Ref sig .tc := ⟨.hbm, 163, rfl⟩
abbrev main_call6_c_2 : Ref sig .tc := ⟨.hbm, 164, rfl⟩
abbrev main_call6_v6 : Ref sig .tc := ⟨.hbm, 165, rfl⟩
abbrev main_call6_v7 : Ref sig .tc := ⟨.hbm, 166, rfl⟩
abbrev main_call6_v8 : Ref sig .tc := ⟨.hbm, 167, rfl⟩
abbrev main_call6_v9 : Ref sig .tc := ⟨.hbm, 168, rfl⟩
abbrev main_call6_v10 : Ref sig .tc := ⟨.hbm, 169, rfl⟩
abbrev main_call6_v11 : Ref sig .tc := ⟨.hbm, 170, rfl⟩
abbrev main_call6_c_3 : Ref sig .tc := ⟨.hbm, 171, rfl⟩
abbrev main_call6_v12 : Ref sig .tc := ⟨.hbm, 172, rfl⟩
abbrev main_call6_v13 : Ref sig .tc := ⟨.hbm, 173, rfl⟩
abbrev main_call6_cst : Ref sig .tc := ⟨.hbm, 174, rfl⟩
abbrev main_call6_v14 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_25 : Ref sig .tc := ⟨.hbm, 179, rfl⟩
abbrev main_v109 : Ref sig .tc := ⟨.hbm, 180, rfl⟩
abbrev main_cst_26 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_27 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_28 : Ref sig .tc := ⟨.hbm, 190, rfl⟩
abbrev main_v117 : Ref sig .tc := ⟨.hbm, 191, rfl⟩
abbrev main_v118 : Ref sig .tc := ⟨.hbm, 192, rfl⟩
abbrev main_cst_29 : Ref sig .tc := ⟨.hbm, 193, rfl⟩
abbrev main_call7_v0 : Ref sig .tc := ⟨.hbm, 194, rfl⟩
abbrev main_call7_v1 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_30 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_call8_c : Ref sig .tc := ⟨.hbm, 206, rfl⟩
abbrev main_call8_v0 : Ref sig .tc := ⟨.hbm, 207, rfl⟩
abbrev main_call8_v1 : Ref sig .tc := ⟨.hbm, 208, rfl⟩
abbrev main_call8_c_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_c_1 : Ref sig .tc := ⟨.hbm, 214, rfl⟩
abbrev main_call8_c_2 : Ref sig .tc := ⟨.hbm, 215, rfl⟩
abbrev main_call8_v6 : Ref sig .tc := ⟨.hbm, 216, rfl⟩
abbrev main_call8_v7 : Ref sig .tc := ⟨.hbm, 217, rfl⟩
abbrev main_call8_v8 : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_3 : Ref sig .tc := ⟨.hbm, 222, rfl⟩
abbrev main_call8_v12 : Ref sig .tc := ⟨.hbm, 223, rfl⟩
abbrev main_call8_v13 : Ref sig .tc := ⟨.hbm, 224, rfl⟩
abbrev main_call8_cst : Ref sig .tc := ⟨.hbm, 225, rfl⟩
abbrev main_call8_v14 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_cst_31 : Ref sig .tc := ⟨.hbm, 230, rfl⟩
abbrev main_v131 : Ref sig .tc := ⟨.hbm, 231, rfl⟩
abbrev main_cst_32 : Ref sig .tc := ⟨.hbm, 232, rfl⟩
abbrev main_v132 : Ref sig .tc := ⟨.hbm, 233, rfl⟩
abbrev main_cst_33 : Ref sig .tc := ⟨.hbm, 234, rfl⟩
abbrev main_v133 : Ref sig .tc := ⟨.hbm, 235, rfl⟩
abbrev main_cst_34 : Ref sig .tc := ⟨.hbm, 236, rfl⟩
abbrev main_v134 : Ref sig .tc := ⟨.hbm, 237, rfl⟩
abbrev main_v135 : Ref sig .tc := ⟨.hbm, 238, rfl⟩

abbrev nD : Nat := 1
abbrev τ : Topo := Topo.v7x

variable {F : FTy → Type} [FloatOps F]
-- ==== Proof.Ideal.Stage0.lean ====
/- The first kernel of KernelIdeal on its grid of eight points: what one pass of the body leaves in the
   accumulator and in the scratch, and the contents carried from point to point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-! ## What one pass leaves -/

/-- The row blocks of the scratch: four of 256 rows of weights, and the eight rows of ones below. -/
abbrev rowsA : Rect S1032x8192 := Rect.unit (s := S1032x8192) ![0, 0] S256x8192.size inb_S1032x8192_S256x8192_0_0
abbrev rowsB : Rect S1032x8192 := Rect.unit (s := S1032x8192) ![256, 0] S256x8192.size inb_S1032x8192_S256x8192_256_0
abbrev rowsC : Rect S1032x8192 := Rect.unit (s := S1032x8192) ![512, 0] S256x8192.size inb_S1032x8192_S256x8192_512_0
abbrev rowsD : Rect S1032x8192 := Rect.unit (s := S1032x8192) ![768, 0] S256x8192.size inb_S1032x8192_S256x8192_768_0
abbrev rowsE : Rect S1032x8192 := Rect.unit (s := S1032x8192) ![1024, 0] S8x8192.size inb_S1032x8192_S8x8192_1024_0

/-- The blocks of a scratch, latest store first. -/
abbrev pieces (x0 : Vec F S1024x64 .f32) (x1 : Vec F S8192x64 .f32) : List (View.Piece (Elt F) S1032x8192 .bf16) :=
  [⟨rowsD, k0_pay3 (k0_pay7 x0) x1⟩, ⟨rowsC, k0_pay2 (k0_pay7 x0) x1⟩, ⟨rowsB, k0_pay1 (k0_pay10 x0 x1)⟩,
    ⟨rowsA, k0_pay9 x0 x1⟩, ⟨rowsE, k0_pay6⟩]

/-- The scratch after a pass over the embedding `x0` and the queue block `x1`. -/
def weights (x0 : Vec F S1024x64 .f32) (x1 : Vec F S8192x64 .f32) : Vec F S1032x8192 .bf16 :=
  View.canon (pieces x0 x1)

/-- The accumulator after a pass that found `acc` in it. -/
def pass (x0 : Vec F S1024x64 .f32) (x1 : Vec F S8192x64 .f32) (x2 : Vec F S8192x1 .i32) (acc : Vec F S1032x1024 .f32) :
    Vec F S1032x1024 .f32 :=
  k0_pay4 (k0_pay8 x2) acc (weights x0 x1)

/-- The five blocks fill the scratch. -/
theorem pieces_fill (a b c d : Vec F S256x8192 .bf16) (e : Vec F S8x8192 .bf16) (y : S1032x8192.Idx) :
    ∃ pc ∈ ([⟨rowsD, a⟩, ⟨rowsC, b⟩, ⟨rowsB, c⟩, ⟨rowsA, d⟩, ⟨rowsE, e⟩] : List (View.Piece (Elt F) S1032x8192 .bf16)), y ∈ pc.1.set :=
  View.cover_of_tiledBy [⟨rowsD, a⟩, ⟨rowsC, b⟩, ⟨rowsB, c⟩, ⟨rowsA, d⟩, ⟨rowsE, e⟩] ![8, 8192] (by sl_kernel_rfl) y

/-! ## The branch on the first point -/

/-- The condition of the body's branch, from the grid coordinate. -/
abbrev isFirst (i : grid0.Coords) : Prop :=
  (Scalar.cmpi .ne (Scalar.extui (Scalar.cmpi .eq (BitVec.ofNat 32 (i 0).val) 0#32)) 0#32) = 1#1

theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val = 0 ↔ t.val % 8 = 0 := by omega
    rw [e1]
    simp only [isFirst, e0]
    word_cmp
   : ∀ t : Fin grid0.N, isFirst (grid0.coords t) ↔ t.val = 0)

/-! ## Loads and stores of whole buffers -/

theorem origin : (![0, 0] : Fin 2 → ℕ) = fun _ => 0 := by
  funext a; fin_cases a <;> rfl

/-- A load of a whole buffer known to hold `x` reads `x`. -/
theorem load_whole {s : Shape} {e : EltTy} (a : Memref sig .tc .vmem s e) (ha : a.IsWhole) (x : s.Idx → Elt F e)
    {off : Fin s.rank → ℕ} (inb : ∀ k, off k + s.size k ≤ s.size k) :
    a.view.readAt (Elt F) (Rect.unit off s.size inb).toLoadRect (ha.unread x) = x :=
  (View.readAt_full _ _ _).trans (ha.read_unread x)

/-- A load of the whole scratch after the five stores reads their blocks. -/
theorem load_pieces (v : View sig .tc .vmem S1032x8192 .bf16) (x0 : Vec F S1024x64 .f32) (x1 : Vec F S8192x64 .f32)
    (inb : ∀ k, (![0, 0] : Fin 2 → ℕ) k + S1032x8192.size k ≤ S1032x8192.size k) :
    v.readCov (pieces x0 x1) (Rect.unit (s := S1032x8192) ![0, 0] S1032x8192.size inb).toLoadRect = weights x0 x1 := by
  rw [View.readCov_eq_canon_ld _ _ _ (pieces_fill _ _ _ _ _), View.ld_unit_zero origin]; rfl

/-- An index below a block of 256 rows is not in it. -/
theorem below {o : ℕ} (inb : ∀ k, (![o, 0] : Fin 2 → ℕ) k + S256x8192.size k ≤ S1032x8192.size k) (y : S1032x8192.Idx)
    (h : o + 256 ≤ (y 0).val) : y ∉ (Rect.unit (s := S1032x8192) ![o, 0] S256x8192.size inb).set := fun hm => by
  have h1 : (y 0).val < o + 256 := ((Rect.mem_set_unit).mp hm 0).2
  omega

theorem last_rows_low (x : S8x8192.Idx) : 1024 ≤ ((rowsE.emb x) 0).val := by
  have h : rowsE.emb x ∈ rowsE.set := by rw [← Rect.map_emb_univ]; exact Finset.mem_map_of_mem _ (Finset.mem_univ x)
  exact ((Rect.mem_set_unit).mp h 0).1

/-- At an index off four blocks, the contents are those the fifth left. -/
theorem canon_skip (pa pb pc pd : View.Piece (Elt F) S1032x8192 .bf16) (L : List (View.Piece (Elt F) S1032x8192 .bf16)) (y : S1032x8192.Idx)
    (ha : y ∉ pa.1.set) (hb : y ∉ pb.1.set) (hc : y ∉ pc.1.set) (hd : y ∉ pd.1.set) :
    View.canon (pa :: pb :: pc :: pd :: L) y = View.canon L y := by
  rw [View.canon_cons_of_not_mem _ _ ha, View.canon_cons_of_not_mem _ _ hb, View.canon_cons_of_not_mem _ _ hc, View.canon_cons_of_not_mem _ _ hd]

theorem off_rows {y : S1032x8192.Idx} (h : 1024 ≤ (y 0).val) : y ∉ rowsD.set ∧ y ∉ rowsC.set ∧ y ∉ rowsB.set ∧ y ∉ rowsA.set :=
  ⟨below (o := 768) _ y (by omega), below (o := 512) _ y (by omega), below (o := 256) _ y (by omega), below (o := 0) _ y (by omega)⟩

/-- The last eight rows of a filled scratch are the first of its five blocks stored. -/
theorem last_rows (a b c d : Vec F S256x8192 .bf16) (e : Vec F S8x8192 .bf16) (x : S8x8192.Idx) :
    View.canon ([⟨rowsD, a⟩, ⟨rowsC, b⟩, ⟨rowsB, c⟩, ⟨rowsA, d⟩, ⟨rowsE, e⟩] : List (View.Piece (Elt F) S1032x8192 .bf16)) (rowsE.emb x) = e x := by
  have h := off_rows (last_rows_low x)
  have h1 := canon_skip (F := F) ⟨rowsD, a⟩ ⟨rowsC, b⟩ ⟨rowsB, c⟩ ⟨rowsA, d⟩ [⟨rowsE, e⟩] (rowsE.emb x) h.1 h.2.1 h.2.2.1 h.2.2.2
  have h2 := View.canon_cons_emb rowsE e [] x
  exact h1.trans h2

/-- Rows a scratch already holds may be thought of as stored once more. -/
theorem rewrite_rows (a : Memref sig .tc .vmem S1032x8192 .bf16) (ha : a.IsWhole) (xs : Vec F S1032x8192 .bf16) (e : Vec F S8x8192 .bf16)
    (he : ∀ x, xs (rowsE.emb x) = e x) :
    a.view.writes (Elt F) (ha.unread xs) [⟨rowsE, e⟩] = ha.unread xs := by
  refine ha.eq_unread (funext fun y => ?_)
  by_cases hy : y ∈ rowsE.set
  · obtain ⟨x, rfl⟩ : ∃ x, rowsE.emb x = y := rowsE.exists_idx_of_mem hy
    exact (View.read_writes_cons_emb _ _ _ _ _ _).trans (he x).symm
  · have h := View.read_writes_apply_of_forall_not_mem a.view (ha.unread xs) y [⟨rowsE, e⟩]
      (fun p hp => by rw [List.mem_singleton] at hp; subst hp; exact hy)
    rw [h, ha.read_unread]

/-- Four stores over such a scratch fill it as five would. -/
theorem read_four (v : View sig .tc .vmem S1032x8192 .bf16) (f : v.ty.Contents (Elt F)) (a b c d : Vec F S256x8192 .bf16) (e : Vec F S8x8192 .bf16)
    (he : v.writes (Elt F) f [⟨rowsE, e⟩] = f) :
    v.read (Elt F) (v.writes (Elt F) f [⟨rowsD, a⟩, ⟨rowsC, b⟩, ⟨rowsB, c⟩, ⟨rowsA, d⟩])
      = View.canon [⟨rowsD, a⟩, ⟨rowsC, b⟩, ⟨rowsB, c⟩, ⟨rowsA, d⟩, ⟨rowsE, e⟩] := by
  rw [← View.read_writes_eq_canon v f _ (pieces_fill a b c d e)]
  simp only [View.writes_cons] at he ⊢
  rw [he]
  rfl

theorem read_later (a : Memref sig .tc .vmem S1032x8192 .bf16) (ha : a.IsWhole) (y0 x0 : Vec F S1024x64 .f32) (y1 x1 : Vec F S8192x64 .f32) :
    a.view.read (Elt F) (a.view.writes (Elt F) (ha.unread (weights y0 y1))
        [⟨rowsD, k0_pay3 (k0_pay7 x0) x1⟩, ⟨rowsC, k0_pay2 (k0_pay7 x0) x1⟩, ⟨rowsB, k0_pay1 (k0_pay10 x0 x1)⟩, ⟨rowsA, k0_pay9 x0 x1⟩])
      = weights x0 x1 :=
  read_four a.view _ _ _ _ _ k0_pay6 (rewrite_rows a ha _ _ (last_rows _ _ _ _ _))

/-- A store of the whole accumulator, read back. -/
theorem store_acc (v : View sig .tc .vmem S1032x1024 .f32) (f : v.ty.Contents (Elt F)) (w : Vec F S1032x1024 .f32)
    (L : List (View.Piece (Elt F) S1032x1024 .f32)) (inb : ∀ k, (![0, 0] : Fin 2 → ℕ) k + S1032x1024.size k ≤ S1032x1024.size k) :
    v.read (Elt F) (v.writes (Elt F) f (⟨Rect.unit (s := S1032x1024) ![0, 0] S1032x1024.size inb, w⟩ :: L)) = w := by
  rw [View.read_writes_eq_canon _ _ _ fun y => ⟨_, List.mem_cons_self, View.mem_set_unit_zero origin inb y⟩]
  exact View.canon_cons_unit_zero origin _ _ _

/-! ## The body's triple, in its two cases -/

set_option maxHeartbeats 2000000 in
/-- The first point: the accumulator and the scratch may hold anything before. -/
theorem first_pass (c : Dev nD) (E : Set ℕ) (i : grid0.Coords) (arg1 : Memref sig .tc .vmem S1024x64 .f32) (harg1 : arg1.IsWhole)
    (arg2 : Memref sig .tc .vmem S8192x64 .f32) (harg2 : arg2.IsWhole) (arg3 : Memref sig .tc .vmem S8192x1 .i32) (harg3 : arg3.IsWhole)
    (arg4 : Memref sig .tc .vmem S1032x1024 .f32) (harg4 : arg4.IsWhole) (arg5 : Memref sig .tc .vmem S1032x8192 .bf16) (harg5 : arg5.IsWhole)
    (hc : isFirst i) (x0 : Vec F S1024x64 .f32) (x1 : Vec F S8192x64 .f32) (x2 : Vec F S8192x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (pass x0 x1 x2 k0_pay5) ∗ owns (c : Thread nD τ) arg5 fullShare (weights x0 x1)) -∗ K ⟨⟩))
      ⊢ wp frame (wpE (defs₀ (F := F)) Variants.none c none) E (cc0__accum_kernel i arg1 harg1 arg2 harg2 arg3 harg3 arg4 harg4 arg5 harg5) K := by
  simp only [cc0__accum_kernel_eq_skeleton]; unfold cc0__accum_kernel_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (store_acc _ _ _ _ _).trans ?_
    unfold first_pass.sl.r_1 first_pass.sl.v59 first_pass.sl.v61 first_pass.sl.H4_5 first_pass.sl.r_3 first_pass.sl.r first_pass.sl.r_2
    unfold pass
    refine congr (congr (congrArg k0_pay4 (congrArg k0_pay8 (load_whole arg3 harg3 x2 _))) (View.readCov_unit_zero _ origin _ _)) ?_
    have e0 := load_whole arg1 harg1 x0 inb_S1024x64_S1024x64_0_0
    have e1 := load_whole arg2 harg2 x1 inb_S8192x64_S8192x64_0_0
    simp only [e0, e1]
    exact load_pieces _ x0 x1 _
  iexists _; isplitr
  swap; · iexact H4
  ipureintro
  unfold first_pass.sl.H4_5 first_pass.sl.r_3 first_pass.sl.r first_pass.sl.r_2
  have e0 := load_whole arg1 harg1 x0 inb_S1024x64_S1024x64_0_0
  have e1 := load_whole arg2 harg2 x1 inb_S8192x64_S8192x64_0_0
  simp only [e0, e1]
  exact View.read_writes_eq_canon _ _ _ (pieces_fill _ _ _ _ _)

set_option maxHeartbeats 2000000 in
/-- A later point: the accumulator holds `acc`, the scratch the blocks of an earlier pass. -/
theorem later_pass (c : Dev nD) (E : Set ℕ) (i : grid0.Coords) (arg1 : Memref sig .tc .vmem S1024x64 .f32) (harg1 : arg1.IsWhole)
    (arg2 : Memref sig .tc .vmem S8192x64 .f32) (harg2 : arg2.IsWhole) (arg3 : Memref sig .tc .vmem S8192x1 .i32) (harg3 : arg3.IsWhole)
    (arg4 : Memref sig .tc .vmem S1032x1024 .f32) (harg4 : arg4.IsWhole) (arg5 : Memref sig .tc .vmem S1032x8192 .bf16) (harg5 : arg5.IsWhole)
    (hc : ¬isFirst i) (x0 y0 : Vec F S1024x64 .f32) (x1 y1 : Vec F S8192x64 .f32) (x2 : Vec F S8192x1 .i32) (acc : Vec F S1032x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare acc ∗ owns (c : Thread nD τ) arg5 fullShare (weights y0 y1)
        ∗ (iprop(owns (c : Thread nD τ) arg1 fullShare x0 ∗ owns (c : Thread nD τ) arg2 fullShare x1 ∗ owns (c : Thread nD τ) arg3 fullShare x2
            ∗ owns (c : Thread nD τ) arg4 fullShare (pass x0 x1 x2 acc) ∗ owns (c : Thread nD τ) arg5 fullShare (weights x0 x1)) -∗ K ⟨⟩))
      ⊢ wp frame (wpE (defs₀ (F := F)) Variants.none c none) E (cc0__accum_kernel i arg1 harg1 arg2 harg2 arg3 harg3 arg4 harg4 arg5 harg5) K := by
  simp only [cc0__accum_kernel_eq_skeleton]; unfold cc0__accum_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (store_acc _ _ _ _ _).trans ?_
    unfold later_pass.sl.r_1 later_pass.sl.v61 later_pass.sl.H4_4 later_pass.sl.r_3 later_pass.sl.r later_pass.sl.r_2
    unfold pass
    refine congr (congr (congrArg k0_pay4 (congrArg k0_pay8 (load_whole arg3 harg3 x2 _))) (load_whole arg4 harg4 acc _)) ?_
    have e0 := load_whole arg1 harg1 x0 inb_S1024x64_S1024x64_0_0
    have e1 := load_whole arg2 harg2 x1 inb_S8192x64_S8192x64_0_0
    simp only [e0, e1]
    exact (View.readAt_full _ _ _).trans (read_later arg5 harg5 y0 x0 y1 x1)
  iexists _; isplitr
  swap; · iexact H4
  ipureintro
  unfold later_pass.sl.H4_4 later_pass.sl.r_3 later_pass.sl.r later_pass.sl.r_2
  have e0 := load_whole arg1 harg1 x0 inb_S1024x64_S1024x64_0_0
  have e1 := load_whole arg2 harg2 x1 inb_S8192x64_S8192x64_0_0
  simp only [e0, e1]
  exact read_later arg5 harg5 y0 x0 y1 x1

end Cert.KernelIdeal.Hand

end
-- ==== Proof.Ideal.Region0.lean ====
/- The first region of KernelIdeal as a pipeline: each window's block at a point, the accumulator point by
   point, the invariant that carries the scratch, and the body's obligation. -/
module

public import proofs.«01_k».proof.Proof.Ideal.Stage0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

section Region
-- the buffers' contents on entry to the region
variable (V : (c : Dev nD) → (b : Ref sig .tc) → Buf (Elt F) ((c : Thread nD τ).loc b))

/-- Window `w`'s block at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`. -/
def accAt (c : Dev nD) : (n : ℕ) → n < cfg0.N → Vec F S1032x1024 .f32
  | 0, h => pass (blk0 V c 0 ⟨0, h⟩) (blk0 V c 1 ⟨0, h⟩) (blk0 V c 2 ⟨0, h⟩) k0_pay5
  | n + 1, h => pass (blk0 V c 0 ⟨n + 1, h⟩) (blk0 V c 1 ⟨n + 1, h⟩) (blk0 V c 2 ⟨n + 1, h⟩) (accAt c n (Nat.lt_of_succ_lt h))

/-- The scratch after point `n`. -/
def weightsAt (c : Dev nD) (n : ℕ) (h : n < cfg0.N) : Vec F S1032x8192 .bf16 :=
  weights (blk0 V c 0 ⟨n, h⟩) (blk0 V c 1 ⟨n, h⟩)

theorem accAt_first (c : Dev nD) (t : Fin cfg0.N) (hz : t.val = 0) :
    accAt V c t.val t.isLt = pass (blk0 V c 0 t) (blk0 V c 1 t) (blk0 V c 2 t) k0_pay5 := by
  obtain ⟨n, hn⟩ := t
  dsimp only at hz
  subst hz
  rfl

theorem accAt_later (c : Dev nD) (t : Fin cfg0.N) (hz : t.val ≠ 0) :
    accAt V c t.val t.isLt
      = pass (blk0 V c 0 t) (blk0 V c 1 t) (blk0 V c 2 t) (accAt V c (t.val - 1) (Nat.lt_of_le_of_lt (Nat.sub_le _ _) t.isLt)) := by
  obtain ⟨n, hn⟩ := t
  cases n with
  | zero => exact absurd rfl hz
  | succ n => rfl

/-! ## The invariant -/

abbrev scr : Memref sig .tc .vmem S1032x8192 .bf16 := Memref.whole cc0_scratch0

/-- The second region's staging buffers, at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The launch's own invariant, the scratch named as a memref. -/
theorem launch_inv (c : Dev nD) :
    (Pipeline.ΦA spec0 c : sProp 𝕄) = iprop(((∃ d, owns (c : Thread nD τ) scr fullShare d) ∗ others c) ∗ (∃ r, prngReg c r)) := by
  unfold Pipeline.ΦA others; rw [scopedRest0_eq]; simp only [scr, owns_whole]; try rfl

/-- Before point `n`: past the first point the scratch holds what the point before left there. -/
def inv (c : Dev nD) : (n : ℕ) → n ≤ cfg0.N → sProp 𝕄
  | 0, _ => Pipeline.ΦA spec0 c
  | n + 1, hn => iprop((owns (c : Thread nD τ) scr fullShare (weightsAt V c n hn) ∗ others c) ∗ (∃ r, prngReg c r))

theorem inv_first (c : Dev nD) (n : ℕ) (h : n ≤ cfg0.N) (hz : n = 0) : inv V c n h = Pipeline.ΦA spec0 c := by
  subst hz; rfl

theorem inv_after (c : Dev nD) (n : ℕ) (hn : n < cfg0.N) :
    inv V c (n + 1) hn = iprop((owns (c : Thread nD τ) scr fullShare (weightsAt V c n hn) ∗ others c) ∗ (∃ r, prngReg c r)) := rfl

theorem inv_later (c : Dev nD) (n : ℕ) (h : n ≤ cfg0.N) (hz : n ≠ 0) :
    inv V c n h = iprop((owns (c : Thread nD τ) scr fullShare (weightsAt V c (n - 1) (by omega)) ∗ others c) ∗ (∃ r, prngReg c r)) := by
  cases n with
  | zero => exact absurd rfl hz
  | succ n => rfl

/-- The region's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => accAt V c t.val t.isLt
  Φ t := inv V c t.val (Nat.le_of_lt_succ t.isLt)
  q _ := fullShare
  owed _ := 0

theorem arr0 (c : Dev nD) (w : Fin cfg0.W) : (dat0 V c).A w = V c (Pipeline.arrRef spec0 w) := by
  dsimp only [dat0]

theorem inv_at (c : Dev nD) (t : Fin cfg0.N) : (dat0 V c).Φ t.castSucc = inv V c t.val (Nat.le_of_lt t.isLt) := by
  dsimp only [dat0]; exact Pipeline.Dat.Φ_castSucc (inv V c) t

theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = accAt V c t.val t.isLt := by dsimp only [dat0]

theorem found0_0 (c : Dev nD) (t : Fin cfg0.N) (d) : (dat0 V c).before 0 t d = blk0 V c 0 t :=
  ((dat0 V c).before_in_eq_fetched 0 rfl (fun _ => rfl) (fun _ _ _ => rfl)
      (fun t => by rw [left0_0]; unfold Dat.blockOf blk0; rw [arr0]; try rfl) t d).trans
    (by unfold Dat.fetched Dat.blockOf blk0; rw [arr0]; try rfl)
theorem found0_1 (c : Dev nD) (t : Fin cfg0.N) (d) : (dat0 V c).before 1 t d = blk0 V c 1 t :=
  ((dat0 V c).before_in_eq_fetched 1 rfl (fun _ => rfl) (fun _ _ _ => rfl)
      (fun t => by rw [left0_1]; unfold Dat.blockOf blk0; rw [arr0]; try rfl) t d).trans
    (by unfold Dat.fetched Dat.blockOf blk0; rw [arr0]; try rfl)
theorem found0_2 (c : Dev nD) (t : Fin cfg0.N) (d) : (dat0 V c).before 2 t d = blk0 V c 2 t :=
  ((dat0 V c).before_in_eq_fetched 2 rfl (fun _ => rfl) (fun _ _ _ => rfl)
      (fun t => by rw [left0_2]; unfold Dat.blockOf blk0; rw [arr0]; try rfl) t d).trans
    (by unfold Dat.fetched Dat.blockOf blk0; rw [arr0]; try rfl)

/-- Past the first point the accumulator's buffer still holds what the point before left. -/
theorem found0_3 (c : Dev nD) (t : Fin cfg0.N) (hz : t.val ≠ 0) (d) :
    (dat0 V c).before 3 t d = accAt V c (t.val - 1) (Nat.lt_of_le_of_lt (Nat.sub_le _ _) t.isLt) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body's obligation -/

def enter0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))

def leave0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t))

set_option maxHeartbeats 1600000 in
theorem body0 (c : Dev nD) (t : Fin cfg0.N) :
    enter0 V c t ⊢ wp frame (wpE (defs₀ (F := F)) Variants.none c none) Set.univ (bodyAt0 t) (fun _ => leave0 V c t) := by
  unfold enter0 leave0 bodyAt0
  simp only [found0_0, found0_1, found0_2]
  rw [show (dat0 V c).owesAt () t.succ = (dat0 V c).owesAt () t.castSucc from rfl, left0_0, left0_1, left0_2, left0_3]
  rw [show (dat0 V c).Φ t.succ = inv V c (t.val + 1) t.isLt from rfl, inv_after, inv_at V c t]
  by_cases hz : t.val = 0
  · rw [inv_first V c _ _ hz, launch_inv, accAt_first V c t hz]
    iintro ⟨⟨⟨HS, HR⟩, Hg⟩, Ho, ⟨%d0, H0⟩, ⟨%d1, H1⟩, ⟨%d2, H2⟩, ⟨%d3, H3⟩⟩
    iapply (first_pass c Set.univ (grid0.coords t) _ _ _ _ _ _ _ _ _ _ ((isFirst_iff t).mpr hz) (blk0 V c 0 t) (blk0 V c 1 t) (blk0 V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [inv_later V c _ _ hz, accAt_later V c t hz]
    simp only [found0_3 V c t hz]
    iintro ⟨⟨⟨HS, HR⟩, Hg⟩, Ho, ⟨%d0, H0⟩, ⟨%d1, H1⟩, ⟨%d2, H2⟩, ⟨%d3, H3⟩⟩
    iapply (later_pass c Set.univ (grid0.coords t) _ _ _ _ _ _ _ _ _ _ (fun h => hz ((isFirst_iff t).mp h)) (blk0 V c 0 t) _ (blk0 V c 1 t) _ (blk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

theorem row0 (t : Fin cfg0.N) : defs₀ (F := F) .tc cfg0.body (cfg0.bodyArgs t (cfg0.slots t)) = bodyAt0 t := by
  unfold defs₀; rw [Defs.onTc_tc]

theorem duty0 (c : Dev nD) : BodyObligation (dat0 (F := F) V c) (defs₀ (F := F)) Variants.none () Set.univ := fun t => by
  rw [bigSep_W0, bigSep_W0, row0]
  exact triple_restated (body0 V c t) rfl .rfl fun _ => .rfl

/-! ## The invariant's two ends -/

theorem inv_in (c : Dev nD) : (Pipeline.ΦA spec0 c : sProp 𝕄) ⊢ (dat0 (F := F) V c).Φ 0 := .rfl

theorem inv_out (c : Dev nD) : (dat0 (F := F) V c).Φ (Fin.last cfg0.N) ⊢ (Pipeline.ΦA spec0 c : sProp 𝕄) := by
  rw [show (dat0 (F := F) V c).Φ (Fin.last cfg0.N) = inv V c cfg0.N (Nat.le_refl _) from rfl,
    inv_later V c _ _ (by rw [show cfg0.N = 8 from N_0]; decide), launch_inv]
  iintro ⟨⟨HS, HR⟩, Hg⟩
  isplitl [HS HR]
  · isplitl [HS]; · iexists _; iexact HS
    iexact HR
  iexact Hg

end Region

end Cert.KernelIdeal.Hand

end
-- ==== Proof.Ideal.Region1.lean ====
/- The second region of KernelIdeal, a single point: what its body writes, and the body's obligation. -/
module

public import proofs.«01_k».proof.Proof.Ideal.Region0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The class rows of the accumulator, and the row that counts. -/
abbrev sumRows : Rect S1032x1024 := Rect.unit (s := S1032x1024) ![0, 0] S1024x1000.size inb_S1032x1024_S1024x1000_0_0
abbrev countRow : Rect S1032x1024 := Rect.unit (s := S1032x1024) ![1024, 0] S1x1000.size inb_S1032x1024_S1x1000_1024_0

/-- The block the body writes, from the five blocks it reads. -/
def final (x0 : Vec F S1024x1000 .f32) (x1 : Vec F S1024x64 .f32) (x2 : Vec F S1024x1 .i32) (x3 : Vec F S1000x64 .f32) (x4 : Vec F S1032x1024 .f32) : Vec F S8x128 .f32 :=
  k1_pay1 (k1_pay7 x2 x0) (k1_pay8 (k1_pay2 (View.ld x4 sumRows) (View.ld x4 countRow)) (k1_pay3 x1 x3) k1_pay4)
    (k1_pay9 (k1_pay2 (View.ld x4 sumRows) (View.ld x4 countRow)) (k1_pay3 x1 x3) k1_pay4 x2)

theorem store_final (v : View sig .tc .vmem S8x128 .f32) (f : v.ty.Contents (Elt F)) (w : Vec F S8x128 .f32)
    (inb : ∀ k, (![0, 0] : Fin 2 → ℕ) k + S8x128.size k ≤ S8x128.size k) :
    v.read (Elt F) (v.writes (Elt F) f [⟨Rect.unit (s := S8x128) ![0, 0] S8x128.size inb, w⟩]) = w := by
  rw [View.read_writes_eq_canon _ _ _ fun y => ⟨_, List.mem_cons_self, View.mem_set_unit_zero origin inb y⟩]
  exact View.canon_cons_unit_zero origin _ _ _

/-- A load of part of a buffer known to hold `x` reads that part. -/
theorem load_part {s : Shape} {e : EltTy} (a : Memref sig .tc .vmem s e) (ha : a.IsWhole) (x : s.Idx → Elt F e) (r : Rect s) :
    a.view.readAt (Elt F) r.toLoadRect (ha.unread x) = View.ld x r := by
  have h := ha.read_unread x
  funext i
  exact congrFun h _

set_option maxHeartbeats 2000000 in
theorem final_pass (c : Dev nD) (E : Set ℕ) (arg0 : Memref sig .tc .vmem S1024x1000 .f32) (harg0 : arg0.IsWhole) (arg1 : Memref sig .tc .vmem S1024x64 .f32) (harg1 : arg1.IsWhole) (arg2 : Memref sig .tc .vmem S1024x1 .i32) (harg2 : arg2.IsWhole) (arg3 : Memref sig .tc .vmem S1000x64 .f32) (harg3 : arg3.IsWhole) (arg4 : Memref sig .tc .vmem S1032x1024 .f32) (harg4 : arg4.IsWhole) (arg5 : Memref sig .tc .vmem S8x128 .f32) (harg5 : arg5.IsWhole)
    (x0 : Vec F S1024x1000 .f32) (x1 : Vec F S1024x64 .f32) (x2 : Vec F S1024x1 .i32) (x3 : Vec F S1000x64 .f32) (x4 : Vec F S1032x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (final x0 x1 x2 x3 x4)) -∗ K ⟨⟩))
      ⊢ wp frame (wpE (defs₀ (F := F)) Variants.none c none) E (cc1__finalize_kernel arg0 harg0 arg1 harg1 arg2 harg2 arg3 harg3 arg4 harg4 arg5 harg5) K := by
  simp only [cc1__finalize_kernel_eq_skeleton]; unfold cc1__finalize_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg0.eq_unread hf0
  obtain rfl := harg1.eq_unread hf1
  obtain rfl := harg2.eq_unread hf2
  obtain rfl := harg3.eq_unread hf3
  obtain rfl := harg4.eq_unread hf4
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  refine (store_final _ _ _ _).trans ?_
  have e0 := load_whole arg0 harg0 x0 inb_S1024x1000_S1024x1000_0_0
  have e1 := load_whole arg1 harg1 x1 inb_S1024x64_S1024x64_0_0
  have e2 := load_whole arg2 harg2 x2 inb_S1024x1_S1024x1_0_0
  have e3 := load_whole arg3 harg3 x3 inb_S1000x64_S1000x64_0_0
  have e4 := load_part arg4 harg4 x4 sumRows
  have e5 := load_part arg4 harg4 x4 countRow
  unfold final_pass.sl.r_2 final_pass.sl.r_3 final_pass.sl.r_4
  (try unfold final_pass.sl.r)
  (try unfold final_pass.sl.r_1)
  simp only [e0, e1, e2, e3, e4, e5]
  rfl

section Region
variable (V : (c : Dev nD) → (b : Ref sig .tc) → Buf (Elt F) ((c : Thread nD τ).loc b))

/-- Window `w`'s block. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the region's one point leaves in the output block. -/
def finalAt (c : Dev nD) (t : Fin cfg1.N) : Vec F S8x128 .f32 :=
  final (blk1 V c 0 t) (blk1 V c 1 t) (blk1 V c 2 t) (blk1 V c 3 t) (blk1 V c 4 t)

/-- The region's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => finalAt V c t
  Φ _ := Pipeline.ΦA spec1 c
  q _ := fullShare
  owed _ := 0

theorem arr1 (c : Dev nD) (w : Fin cfg1.W) : (dat1 V c).A w = V c (Pipeline.arrRef spec1 w) := by
  dsimp only [dat1]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = blk1 V c 4 t := by dsimp only [dat1]
theorem left1_5 (c : Dev nD) (t : Fin cfg1.N) : (dat1 V c).after 5 t = finalAt V c t := by dsimp only [dat1]

theorem found1_0 (c : Dev nD) (t : Fin cfg1.N) (d) : (dat1 V c).before 0 t d = blk1 V c 0 t :=
  ((dat1 V c).before_in_eq_fetched 0 rfl (fun _ => rfl) (fun _ _ _ => rfl)
      (fun t => by rw [left1_0]; unfold Dat.blockOf blk1; rw [arr1]; try rfl) t d).trans
    (by unfold Dat.fetched Dat.blockOf blk1; rw [arr1]; try rfl)
theorem found1_1 (c : Dev nD) (t : Fin cfg1.N) (d) : (dat1 V c).before 1 t d = blk1 V c 1 t :=
  ((dat1 V c).before_in_eq_fetched 1 rfl (fun _ => rfl) (fun _ _ _ => rfl)
      (fun t => by rw [left1_1]; unfold Dat.blockOf blk1; rw [arr1]; try rfl) t d).trans
    (by unfold Dat.fetched Dat.blockOf blk1; rw [arr1]; try rfl)
theorem found1_2 (c : Dev nD) (t : Fin cfg1.N) (d) : (dat1 V c).before 2 t d = blk1 V c 2 t :=
  ((dat1 V c).before_in_eq_fetched 2 rfl (fun _ => rfl) (fun _ _ _ => rfl)
      (fun t => by rw [left1_2]; unfold Dat.blockOf blk1; rw [arr1]; try rfl) t d).trans
    (by unfold Dat.fetched Dat.blockOf blk1; rw [arr1]; try rfl)
theorem found1_3 (c : Dev nD) (t : Fin cfg1.N) (d) : (dat1 V c).before 3 t d = blk1 V c 3 t :=
  ((dat1 V c).before_in_eq_fetched 3 rfl (fun _ => rfl) (fun _ _ _ => rfl)
      (fun t => by rw [left1_3]; unfold Dat.blockOf blk1; rw [arr1]; try rfl) t d).trans
    (by unfold Dat.fetched Dat.blockOf blk1; rw [arr1]; try rfl)
theorem found1_4 (c : Dev nD) (t : Fin cfg1.N) (d) : (dat1 V c).before 4 t d = blk1 V c 4 t :=
  ((dat1 V c).before_in_eq_fetched 4 rfl (fun _ => rfl) (fun _ _ _ => rfl)
      (fun t => by rw [left1_4]; unfold Dat.blockOf blk1; rw [arr1]; try rfl) t d).trans
    (by unfold Dat.fetched Dat.blockOf blk1; rw [arr1]; try rfl)

def enter1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def leave1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem body1 (c : Dev nD) (t : Fin cfg1.N) :
    enter1 V c t ⊢ wp frame (wpE (defs₀ (F := F)) Variants.none c none) Set.univ (bodyAt1 t) (fun _ => leave1 V c t) := by
  unfold enter1 leave1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    left1_0, left1_1, left1_2, left1_3, left1_4, left1_5]
  unfold finalAt
  iintro ⟨HΦ, Ho, ⟨%d0, H0⟩, ⟨%d1, H1⟩, ⟨%d2, H2⟩, ⟨%d3, H3⟩, ⟨%d4, H4⟩, ⟨%d5, H5⟩⟩
  iapply (final_pass c Set.univ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row1 (t : Fin cfg1.N) : defs₀ (F := F) .tc cfg1.body (cfg1.bodyArgs t (cfg1.slots t)) = bodyAt1 t := by
  unfold defs₀; rw [Defs.onTc_tc]

theorem duty1 (c : Dev nD) : BodyObligation (dat1 (F := F) V c) (defs₀ (F := F)) Variants.none () Set.univ := fun t => by
  rw [bigSep_W1, bigSep_W1, row1]
  exact triple_restated (body1 V c t) rfl .rfl fun _ => .rfl

end Region

end Cert.KernelIdeal.Hand

end
-- ==== Proof.Ideal.Run.lean ====
/- The run of KernelIdeal: the buffers at each boundary between its items, and what every execution
   leaves. -/
module

public import proofs.«01_k».proof.Proof.Ideal.Region1
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal.Gen hiding V0 V1 V2 V3 V4 segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's argument arrays. -/
abbrev inputs : List (Ref sig .tc) := [main_arg0, main_arg1, main_arg2, main_arg3, main_arg4, main_arg5, main_arg6]

theorem hostOps0_args : ∀ a ∈ inputs, a ∉ hostOps0_W := ListAll.forall_mem_of_all_decide (by decide +kernel)
theorem hostOps2_args : ∀ a ∈ inputs, a ∉ hostOps2_W := ListAll.forall_mem_of_all_decide (by decide +kernel)

/-- Core `c`'s buffers at launch. -/
abbrev at0 : Dev nD → Valuation τ sig (Elt F) := fun c b => (s₀ m ρ).mem ((c : Dev nD), b)
theorem at0_args (c : Dev nD) : ∀ a ∈ inputs, at0 m ρ c (Proc.devRef .tc a) = m ((c : Thread nD τ).loc a) := fun _ _ => rfl
/-- On entry to the first region. -/
abbrev at1 : Dev nD → Valuation τ sig (Elt F) := fun c => StableHlo.after hostOps0 (at0 m ρ c)
theorem at1_of (c : Dev nD) (r : Ref sig .tc) (h : r ∉ hostOps0_W) : at1 m ρ c (Proc.devRef .tc r) = at0 m ρ c (Proc.devRef .tc r) :=
  StableHlo.after_of_writes_sub hostOps0 _ hostOps0_writes h
theorem at1_args (c : Dev nD) : ∀ a ∈ inputs, at1 m ρ c (Proc.devRef .tc a) = m ((c : Thread nD τ).loc a) :=
  fun a ha => (at1_of m ρ c a (hostOps0_args a ha)).trans (at0_args m ρ c a ha)
abbrev ref1 : (c : Dev nD) → (b : Ref sig .tc) → Buf (Elt F) ((c : Thread nD τ).loc b) := fun c b => at1 m ρ c b
/-- Between the regions: the first region's arrays as it leaves them. -/
def at2 (c : Dev nD) : Valuation τ sig (Elt F) :=
  Pipeline.withArrays spec0 c (at1 m ρ c) fun w => (dat0 (ref1 m ρ) c).arrAt w cfg0.N
theorem at2_arr (c : Dev nD) (w : Fin cfg0.W) :
    at2 m ρ c (Proc.devRef .tc (Pipeline.arrRef spec0 w)) = (dat0 (ref1 m ρ) c).arrAt w cfg0.N := by
  unfold at2; exact Pipeline.withArrays_arr spec0 launch0.win.arr_inj c _ _ w
theorem at2_off (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
theorem at2_of (c : Dev nD) (r : Ref sig .tc) (h : ∀ w : Fin cfg0.W, Pipeline.arrRef spec0 w = r → (cfg0.win w).isOut = false) :
    at2 m ρ c (Proc.devRef .tc r) = at1 m ρ c (Proc.devRef .tc r) := by
  by_cases hw : ∃ w : Fin cfg0.W, Pipeline.arrRef spec0 w = r
  · obtain ⟨w, rfl⟩ := hw
    exact (at2_arr m ρ c w).trans (((dat0 (ref1 m ρ) c).arrAt_in w (h w rfl) _).trans (arr0 (ref1 m ρ) c w))
  · exact at2_off m ρ c r fun w e => hw ⟨w, e⟩
theorem argsIn0 : ∀ a ∈ inputs, ∀ w : Fin cfg0.W, Pipeline.arrRef spec0 w = a → (cfg0.win w).isOut = false :=
  ListAll.forall_mem_of_all_decide (by decide +kernel)
theorem at2_args (c : Dev nD) : ∀ a ∈ inputs, at2 m ρ c (Proc.devRef .tc a) = m ((c : Thread nD τ).loc a) :=
  fun a ha => (at2_of m ρ c a (argsIn0 a ha)).trans (at1_args m ρ c a ha)
abbrev ref2 : (c : Dev nD) → (b : Ref sig .tc) → Buf (Elt F) ((c : Thread nD τ).loc b) := fun c b => at2 m ρ c b
theorem hF0 (c : Dev nD) (w : Fin cfg0.W) : (dat0 (ref1 m ρ) c).arrAt w cfg0.N = ref2 m ρ c (Pipeline.arrRef spec0 w) :=
  (at2_arr m ρ c w).symm
theorem hrest0 (c : Dev nD) : ∀ b, b ∉ Finset.univ.image (Pipeline.arrRef spec0) → ref2 m ρ c b = ref1 m ρ c b :=
  fun b hb => at2_off m ρ c b fun w e => hb (Finset.mem_image.mpr ⟨w, Finset.mem_univ _, e⟩)

/-- After the second region. -/
def at3 (c : Dev nD) : Valuation τ sig (Elt F) :=
  Pipeline.withArrays spec1 c (at2 m ρ c) fun w => (dat1 (ref2 m ρ) c).arrAt w cfg1.N
theorem at3_arr (c : Dev nD) (w : Fin cfg1.W) :
    at3 m ρ c (Proc.devRef .tc (Pipeline.arrRef spec1 w)) = (dat1 (ref2 m ρ) c).arrAt w cfg1.N := by
  unfold at3; exact Pipeline.withArrays_arr spec1 launch1.win.arr_inj c _ _ w
theorem at3_off (c : Dev nD) (b : Ref sig .tc) (hb : ∀ w, Pipeline.arrRef spec1 w ≠ b) :
    at3 m ρ c (Proc.devRef .tc b) = at2 m ρ c (Proc.devRef .tc b) := by
  unfold at3; exact Pipeline.withArrays_of_ne spec1 c _ _ b hb
theorem at3_of (c : Dev nD) (r : Ref sig .tc) (h : ∀ w : Fin cfg1.W, Pipeline.arrRef spec1 w = r → (cfg1.win w).isOut = false) :
    at3 m ρ c (Proc.devRef .tc r) = at2 m ρ c (Proc.devRef .tc r) := by
  by_cases hw : ∃ w : Fin cfg1.W, Pipeline.arrRef spec1 w = r
  · obtain ⟨w, rfl⟩ := hw
    exact (at3_arr m ρ c w).trans (((dat1 (ref2 m ρ) c).arrAt_in w (h w rfl) _).trans (arr1 (ref2 m ρ) c w))
  · exact at3_off m ρ c r fun w e => hw ⟨w, e⟩
theorem argsIn1 : ∀ a ∈ inputs, ∀ w : Fin cfg1.W, Pipeline.arrRef spec1 w = a → (cfg1.win w).isOut = false :=
  ListAll.forall_mem_of_all_decide (by decide +kernel)
theorem at3_args (c : Dev nD) : ∀ a ∈ inputs, at3 m ρ c (Proc.devRef .tc a) = m ((c : Thread nD τ).loc a) :=
  fun a ha => (at3_of m ρ c a (argsIn1 a ha)).trans (at2_args m ρ c a ha)
abbrev ref3 : (c : Dev nD) → (b : Ref sig .tc) → Buf (Elt F) ((c : Thread nD τ).loc b) := fun c b => at3 m ρ c b
theorem hF1 (c : Dev nD) (w : Fin cfg1.W) : (dat1 (ref2 m ρ) c).arrAt w cfg1.N = ref3 m ρ c (Pipeline.arrRef spec1 w) :=
  (at3_arr m ρ c w).symm
theorem hrest1 (c : Dev nD) : ∀ b, b ∉ Finset.univ.image (Pipeline.arrRef spec1) → ref3 m ρ c b = ref2 m ρ c b :=
  fun b hb => at3_off m ρ c b fun w e => hb (Finset.mem_image.mpr ⟨w, Finset.mem_univ _, e⟩)

/-- At the end. -/
abbrev at4 : Dev nD → Valuation τ sig (Elt F) := fun c => StableHlo.after hostOps2 (at3 m ρ c)
theorem at4_of (c : Dev nD) (r : Ref sig .tc) (h : r ∉ hostOps2_W) : at4 m ρ c (Proc.devRef .tc r) = at3 m ρ c (Proc.devRef .tc r) :=
  StableHlo.after_of_writes_sub hostOps2 _ hostOps2_writes h
theorem at4_args (c : Dev nD) : ∀ a ∈ inputs, at4 m ρ c (Proc.devRef .tc a) = m ((c : Thread nD τ).loc a) :=
  fun a ha => (at4_of m ρ c a (hostOps2_args a ha)).trans (at3_args m ρ c a ha)

/-- Each region's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (ref1 m ρ) c
  | ⟨1, _⟩ => fun c => dat1 (ref2 m ρ) c
abbrev 𝒱₀ : Variants := Variants.none
abbrev L : GSem nD τ sig → Finset Unit := fun _ => ∅
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem inputs_unscoped : ∀ a ∈ inputs, ¬ (Proc.devRef .tc a : DevRef τ sig).isScoped := ListAll.forall_mem_of_all_decide (by decide +kernel)
/-- The last thread state, less what is owed. -/
abbrev Tₙ (c : Dev nD) : sProp 𝕄 := iprop(StableHlo.held (c : Thread nD τ) (Pipeline.ucRefs τ sig) (at4 m ρ c) ∗ ∃ r, prngReg c r)
set_option backward.isDefEq.respectTransparency.types false in
/-- The first region over the whole thread state. -/
def part0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (duty0 (ref1 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (ref1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (ref1 m ρ c) (arr0 (ref1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]; refine (inv_out (ref1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (ref1 m ρ c) (ref2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second region over the whole thread state. -/
def part1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (duty1 (ref2 m ρ) c).loose
  hwaits := Pipeline.hwaits_of_owed_zero _ _ _ _ L lv 1 fun _ _ => rfl
  pre c := iprop(StableHlo.held (c : Thread nD τ) (Pipeline.ucRefs τ sig) (at2 m ρ c) ∗ R c)
  post c := iprop(StableHlo.held (c : Thread nD τ) (Pipeline.ucRefs τ sig) (at3 m ρ c) ∗ R c)
  X c := iprop(∃ r, prngReg c r)
  Y c := iprop(∃ r, prngReg c r)
  Z c := Pipeline.unscopedRest (Ix := Unit) (Name := ℕ) (U := UR sig nD τ) (Lvl := ℕ) spec1 c (ref2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (ref2 m ρ c) (arr1 (ref2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (ref2 m ρ c) (ref3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program, item by item. -/
abbrev items : List (Pipeline.Seg (pcfgs (F := F)) adm (pdats m ρ) () defs₀ 𝒱₀ L lv) :=
  [ .host (hseg hostOps0 hostOps0_sub hostOps0_fresh (at0 m ρ)),
    .region (part0 m ρ),
    .region (part1 m ρ),
    .host (hseg hostOps2 hostOps2_sub hostOps2_fresh (at3 m ρ)) ]
theorem main_run (c : Dev nD) : main (F := F) c = Pipeline.Seg.run (items m ρ) := (main_chain c).trans (by chain_rfl)

set_option backward.isDefEq.respectTransparency.types false in
/-- Every execution ends with the result at the last boundary's contents, each argument as launched and every counter at zero. -/
theorem ends : θ_run defs (onTc (τ := τ) (main (F := F))) ⟨m, fun _ => 0, ρ⟩ (fun r => (∀ c : Dev nD,
      r.2.mem ((c.tc : Thread nD τ).loc main_v9) = at4 m ρ c (Proc.devRef .tc main_v9)
      ∧ ∀ a ∈ inputs, r.2.mem ((c.tc : Thread nD τ).loc a) = m ((c.tc : Thread nD τ).loc a))
      ∧ r.2.sem = fun _ => 0) :=
  Pipeline.θ_run_regions_kit_sems (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h hz => ⟨fun c => ⟨h c _ (mem_uc main_v9 (by decide)), fun a ha =>
      (h c _ (mem_uc a (inputs_unscoped a ha))).trans (at4_args m ρ c a ha)⟩, funext fun g => hz g (.inr (regions_no_unscoped g.2))⟩)

end Cert.KernelIdeal.Hand

end
-- ==== Proof.Value.Frames.lean ====
/- The programs run to their ends, leave their arguments as they were and every counter at zero; and the two named constants. -/
module

public import proofs.«01_k».proof.Defs
public import proofs.«01_k».proof.Proof.Bits.Run
public import proofs.«01_k».proof.Proof.Ideal.Run
public import proofs.«01_k».proof.Proof.Gen.ReferenceIdeal.Run
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

/-- What holds of each of a list of seven holds of the seven in turn. -/
theorem seven {α : Type} {P : α → Prop} {a b c d e f g : α} (h : ∀ x ∈ [a, b, c, d, e, f, g], P x) :
    P a ∧ P b ∧ P c ∧ P d ∧ P e ∧ P f ∧ P g :=
  ⟨h a (by simp), h b (by simp), h c (by simp), h d (by simp), h e (by simp), h f (by simp), h g (by simp)⟩

theorem frame_kernel : Cert.quiescent_Kernel := fun m g _ =>
  (θ_run Cert.Kernel.defs _ _).mono (fun _ h => ⟨fun c => seven (h.1 c).2, h.2⟩) (Cert.Kernel.Hand.ends m g)

theorem frame_ideal : Cert.quiescent_KernelIdeal := fun m g _ =>
  (θ_run Cert.KernelIdeal.defs _ _).mono (fun _ h => ⟨fun c => seven (h.1 c).2, h.2⟩) (Cert.KernelIdeal.Hand.ends m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem named : Cert.preserves_Kernel_KernelIdeal :=
  ⟨IdealRules.named_const.statement _ _ _ _ _ rfl, IdealRules.named_const.statement _ _ _ _ _ rfl⟩

end Cert.Proof

end
-- ==== Proof.Value.Words.lean ====
/- The constants of the two programs as extended reals. -/
module

public import Idealize.ShloMosaic.PureOps.Ideal
public import Idealize.ShloMosaic.Lib.IdealHost

@[expose] public section

noncomputable section

namespace Cert.Words

open Idealize.ShloMosaic

theorem top_word : Ideal.ofBits .f32 0x7F800000#32 = ⊤ := by
  simp [Ideal.ofBits, Ideal.ieee]
theorem bot_word : Ideal.ofBits .f32 0xFF800000#32 = ⊥ := by
  simp [Ideal.ofBits, Ideal.ieee]
theorem four_word : Ideal.ofBits .f32 0x40800000#32 = ((4 : ℝ) : EReal) := by
  simp [Ideal.ofBits, Ideal.ieee, -EReal.coe_mul]; norm_num
theorem seven_word : Ideal.ofBits .f32 0x40E00000#32 = ((7 : ℝ) : EReal) := by
  simp [Ideal.ofBits, Ideal.ieee, -EReal.coe_mul]; norm_num
theorem hundred_word : Ideal.ofBits .f32 0x42C80000#32 = ((100 : ℝ) : EReal) := by
  simp [Ideal.ofBits, Ideal.ieee, -EReal.coe_mul]; norm_num
theorem rows_word : Ideal.ofBits .f32 0x44800000#32 = ((1024 : ℝ) : EReal) := by
  simp [Ideal.ofBits, Ideal.ieee, -EReal.coe_mul]; norm_num
theorem inv_rows_word : Ideal.ofBits .f32 0x3A800000#32 = ((1 / 1024 : ℝ) : EReal) := by
  simp [Ideal.ofBits, Ideal.ieee, -EReal.coe_mul]; norm_num
theorem norm_word : ∃ e : ℝ, 0 < e ∧ Ideal.ofBits .f32 0x2B8CBCCC#32 = (e : EReal) := by
  refine ⟨_, ?_, by simp [Ideal.ofBits, Ideal.ieee]; rfl⟩
  positivity
theorem floor_word : ∃ e : ℝ, 0 < e ∧ e ≤ 1 / 2 ^ 99 ∧ Ideal.ofBits .f32 0x0DA24260#32 = (e : EReal) := by
  refine ⟨_, ?_, ?_, by simp [Ideal.ofBits, Ideal.ieee]; rfl⟩
  · positivity
  · norm_num
theorem weight_word : ∃ e : ℝ, Ideal.ofBits .f32 0x3DCCCCCD#32 = (e : EReal) :=
  ⟨_, by simp [Ideal.ofBits, Ideal.ieee]; rfl⟩

end Cert.Words

end
-- ==== Proof.Value.Pre.lean ====
/- What the precondition says of the arguments. -/
module

public import proofs.«01_k».proof.Defs
public import proofs.«01_k».proof.Proof.Gen.Pre_in_range
public import proofs.«01_k».proof.Proof.Value.Words
public import Idealize.ShloMosaic.Lib.ReduceAll
public import Idealize.ShloMosaic.Lib.Pointwise
public import Idealize.ShloMosaic.Lib.Pointwise.Tactic

@[expose] public section

set_option maxRecDepth 16384

noncomputable section

namespace Cert.Proof

open Idealize.ShloMosaic Cert.Pre_in_range

attribute [local instance] Cert.Pre_in_range.Gen.facts

instance : Subsingleton (Cert.Pre_in_range.S_).Idx := ⟨fun a b => funext fun k => k.elim0⟩

theorem of_word {p : Prop} [Decidable p] (h : BitVec.ofBool (decide p) = 1#1) : p := by
  by_contra hp
  simp [hp] at h

/-- The precondition, decoded. -/
theorem decoded (a0 : FVec Ideal S1024x1000 .f32) (a1 : FVec Ideal S1024x64 .f32) (a2 : IVec S1024 32) (a3 : FVec Ideal S1000x64 .f32)
    (a4 : IVec S1000 1) (a5 : FVec Ideal S65536x64 .f32) (a6 : IVec S65536 32)
    (h : Cert.Pre_in_range.fn (F := Ideal) a0 a1 a2 a3 a4 a5 a6 = fun _ => 1#1) :
    (∀ r : Fin 1024, 0 ≤ (a2 (ix1 r)).toInt) ∧ (∀ r : Fin 1024, (a2 (ix1 r)).toInt < 1000)
      ∧ (∀ (r : Fin 1024) (c : Fin 1000), a0 (ix2 r c) < (⊤ : EReal))
      ∧ ∀ q : Fin 65536, (∑ d : Fin 64, a5 (ix2 q d) * a5 (ix2 q d) : EReal) ≤ ((4 : ℝ) : EReal) := by
  have h0 := congrFun h (fun k => k.elim0)
  unfold Cert.Pre_in_range.fn Cert.Pre_in_range.fn_part1 at h0
  dsimp only at h0
  obtain ⟨h1, h2⟩ := IntOp.andi_eq_one.1 h0
  obtain ⟨h3, h4⟩ := IntOp.andi_eq_one.1 h1
  obtain ⟨h5, h6⟩ := IntOp.andi_eq_one.1 h3
  refine ⟨fun r => ?_, fun r => ?_, fun r c => ?_, fun q => ?_⟩
  · have e := Host.reduce_andi_all _ _ _ _ _ h5 (ix1 r)
    pointwise [] at e
    exact of_word (by simpa [IntOp.cmpi, BitVec.sle] using e)
  · have e := Host.reduce_andi_all _ _ _ _ _ h6 (ix1 r)
    pointwise [] at e
    exact of_word (by simpa [IntOp.cmpi, BitVec.slt] using e)
  · have e := Host.reduce_andi_all _ _ _ _ _ h4 (ix2 r c)
    pointwise [Words.top_word] at e
    exact of_word e
  · have e := Host.reduce_andi_all _ _ _ _ _ h2 (ix1 q)
    pointwise [Words.four_word] at e
    exact of_word e

end Cert.Proof

end
-- ==== Proof.Value.Forms.lean ====
/- The formulas the two programs compute, over the extended reals. -/
module

public import Idealize.ShloMosaic.PureOps.Ideal
public import Idealize.ShloMosaic.Lib.IdealHost

@[expose] public section

noncomputable section

namespace Cert.Forms

open Idealize.ShloMosaic

/-- The scale the features carry: one over the temperature, over the logarithm of two. -/
abbrev scaleE : EReal := (((100 / 7) * (Real.log 2)⁻¹ : ℝ) : EReal)
/-- One over the temperature. -/
abbrev invTemp : EReal := ((100 / 7 : ℝ) : EReal)
/-- The least norm that is divided by. -/
abbrev leastNorm : EReal := Ideal.ofBits .f32 0x2B8CBCCC#32
/-- The least sum of weights whose logarithm is taken. -/
abbrev leastSum : EReal := Ideal.ofBits .f32 0x0DA24260#32

/-- A row's norm, from below `leastNorm`. -/
abbrev norm (x : Fin 64 → EReal) : EReal := max (Ideal.sqrt (∑ k : Fin 64, x k * x k)) leastNorm
/-- A feature row scaled: the row over its norm, times the scale. -/
abbrev scaled (x : Fin 64 → EReal) (K : EReal) (d : Fin 64) : EReal := x d * Ideal.div K (norm x)
/-- A row over its norm. -/
abbrev unit (x : Fin 64 → EReal) (d : Fin 64) : EReal := Ideal.div (x d) (norm x)

/-- The greatest entry of a row. -/
abbrev rowMax (f : Fin 1000 → EReal) : EReal := Finset.univ.fold max ⊥ f
/-- The logarithm of a row's sum of exponentials, taken about its greatest entry. -/
abbrev rowLog (f : Fin 1000 → EReal) : EReal := Ideal.log (∑ c : Fin 1000, Ideal.exp (f c - rowMax f)) + rowMax f
/-- A row's entry at a label, as a masked sum. -/
abbrev rowPick (f : Fin 1000 → EReal) (t : BitVec 32) : EReal := ∑ c : Fin 1000, if t = BitVec.ofNat 32 c.val then f c else 0

/-- The class log density from a sum of weights and a count. -/
abbrev density (s n : EReal) : EReal :=
  if 0 < n then (Ideal.log (max s leastSum) + invTemp) - Ideal.log (max n 1) else 0
/-- Two log values joined. -/
abbrev joined (a b : EReal) : EReal :=
  max a b + Ideal.log (Ideal.exp (a - max a b) + Ideal.exp (b - max a b))

/-- One where a label is the class, nought elsewhere. -/
abbrev hit (l : BitVec 32) (c : ℕ) : EReal := if l = BitVec.ofNat 32 c then 1 else 0
/-- The weight of a queue row for a feature row. -/
abbrev pull (x y : Fin 64 → EReal) : EReal := Ideal.exp2 ((∑ d : Fin 64, scaled x scaleE d * y d) - scaleE)

/-- The kernel's prior at a feature row, for a class. -/
def kernelPrior (x : Fin 64 → EReal) (ce : Fin 1000 → Fin 64 → EReal) (rd : Fin 1000 → BitVec 1)
    (qu : Fin 65536 → Fin 64 → EReal) (la : Fin 65536 → BitVec 32) (c : Fin 1000) : EReal :=
  joined ((∑ d : Fin 64, unit x d * unit (fun k => ce c k * (((rd c).toNat : ℝ) : EReal)) d) * invTemp)
    (density (∑ q : Fin 65536, pull x (qu q) * hit (la q) c.val) (∑ q : Fin 65536, 1 * hit (la q) c.val))

/-- The kernel's result. -/
def kernelLoss (lg : Fin 1024 → Fin 1000 → EReal) (em : Fin 1024 → Fin 64 → EReal) (tg : Fin 1024 → BitVec 32)
    (ce : Fin 1000 → Fin 64 → EReal) (rd : Fin 1000 → BitVec 1) (qu : Fin 65536 → Fin 64 → EReal) (la : Fin 65536 → BitVec 32) : EReal :=
  (∑ r : Fin 1024, (rowLog (lg r) - rowPick (lg r) (tg r))) * ((1 / 1024 : ℝ) : EReal)
    + Ideal.ofBits .f32 0x3DCCCCCD#32 * ((∑ r : Fin 1024, (rowLog (kernelPrior (em r) ce rd qu la)
      - rowPick (kernelPrior (em r) ce rd qu la) (tg r))) * ((1 / 1024 : ℝ) : EReal))

/-- The temperature. -/
abbrev temp : EReal := Ideal.div ((7 : ℝ) : EReal) ((100 : ℝ) : EReal)
/-- A value that is neither infinite, or nought. -/
abbrev finite (x : EReal) : EReal := if max x (-x) < ⊤ then x else 0
/-- A queue row's similarity to a feature row. -/
abbrev near (x y : Fin 64 → EReal) : EReal := Ideal.div (∑ d : Fin 64, unit x d * y d) temp
/-- The logit of a class center. -/
abbrev centerLogit (x c : Fin 64 → EReal) (b : BitVec 1) : EReal :=
  if b = 1#1 then Ideal.div (∑ d : Fin 64, unit x d * unit c d) temp else 0
/-- One for a label that is not negative. -/
abbrev valid (l : BitVec 32) : EReal := if 0 ≤ l.toInt then 1 else 0
/-- The segment of a label. -/
abbrev segment (l : BitVec 32) : BitVec 32 := if 0 ≤ l.toInt then l else 1000#32
/-- The greatest similarity over the labelled queue rows. -/
def peak (x : Fin 64 → EReal) (qu : Fin 65536 → Fin 64 → EReal) (la : Fin 65536 → BitVec 32) : EReal :=
  Finset.univ.fold max ⊥ fun q : Fin 65536 => if 0 ≤ (la q).toInt then near x (qu q) else ⊥
/-- The greatest similarity over the labelled queue rows, or nought. -/
abbrev shift (x : Fin 64 → EReal) (qu : Fin 65536 → Fin 64 → EReal) (la : Fin 65536 → BitVec 32) : EReal :=
  finite (peak x qu la)
/-- The queue rows of a class. -/
abbrev members (la : Fin 65536 → BitVec 32) (c : ℕ) : Finset (Fin 65536) :=
  Finset.univ.filter fun q => (segment (la q)).toInt = (c : ℤ)
/-- The class log density, from the sum of the weights about a shift, the count and the shift. -/
abbrev densityAbout (s n m : EReal) : EReal :=
  if 0 < n then (Ideal.log (max s leastSum) + m) - Ideal.log (max n 1) else 0
/-- The queue's logit of a class. -/
abbrev queueLogit (x : Fin 64 → EReal) (qu : Fin 65536 → Fin 64 → EReal) (la : Fin 65536 → BitVec 32) (c : ℕ) : EReal :=
  densityAbout (∑ q ∈ members la c, Ideal.exp (near x (qu q) - shift x qu la) * valid (la q))
    (∑ q ∈ members la c, valid (la q)) (shift x qu la)
/-- Two log values joined about their difference. -/
abbrev joinedAbout (a b : EReal) : EReal := max a b + Ideal.log (1 + Ideal.exp (-(max (a - b) (-(a - b)))))
/-- The logarithm of the even class prior. -/
abbrev evenPrior : EReal :=
  1 * Ideal.log (max (Ideal.div 1 (Ideal.ofBits .f32 0x447A0000#32)) (Ideal.ofBits .f32 0x322BCC77#32))
/-- The logarithm of a row's sum of exponentials, about its greatest entry where that is finite. -/
abbrev rowLogAbout (f : Fin 1000 → EReal) : EReal :=
  Ideal.log (∑ c : Fin 1000, Ideal.exp (f c - finite (rowMax f))) + finite (rowMax f)
/-- The class a label names, from within the classes. -/
abbrev classOf (t : BitVec 32) : Fin 1000 := ⟨min t.toInt.toNat 999, by omega⟩

/-- The reference's prior at a feature row, for a class. -/
def referencePrior (x : Fin 64 → EReal) (ce : Fin 1000 → Fin 64 → EReal) (rd : Fin 1000 → BitVec 1)
    (qu : Fin 65536 → Fin 64 → EReal) (la : Fin 65536 → BitVec 32) (c : Fin 1000) : EReal :=
  joinedAbout (centerLogit x (ce c) (rd c)) (queueLogit x qu la c.val)

/-- A row's cross entropy at a label, the even prior taken off. -/
abbrev rowLoss (f : Fin 1000 → EReal) (t : BitVec 32) : EReal :=
  rowLogAbout (fun c => f c - evenPrior) - (f (classOf t) - evenPrior)

/-- The reference's result. -/
def referenceLoss (lg : Fin 1024 → Fin 1000 → EReal) (em : Fin 1024 → Fin 64 → EReal) (tg : Fin 1024 → BitVec 32)
    (ce : Fin 1000 → Fin 64 → EReal) (rd : Fin 1000 → BitVec 1) (qu : Fin 65536 → Fin 64 → EReal) (la : Fin 65536 → BitVec 32) : EReal :=
  1 * Ideal.div (∑ r : Fin 1024, rowLoss (lg r) (tg r)) ((1024 : ℝ) : EReal)
    + Ideal.ofBits .f32 0x3DCCCCCD#32 * Ideal.div (∑ r : Fin 1024, rowLoss (referencePrior (em r) ce rd qu la) (tg r)) ((1024 : ℝ) : EReal)

end Cert.Forms

end
-- ==== Proof.Value.Stage0.lean ====
/- The first kernel's payloads read at an index, over the extended reals. -/
module

public import proofs.«01_k».proof.Proof.Ideal.Stage0
public import proofs.«01_k».proof.Proof.Value.Forms
public import Idealize.ShloMosaic.Lib.Pointwise
public import Idealize.ShloMosaic.Lib.Pointwise.Tactic

@[expose] public section

set_option maxRecDepth 16384

noncomputable section

namespace Cert.KernelIdeal.Hand

open Cert.KernelIdeal.Gen
open Idealize.ShloMosaic Cert.Forms

theorem named_scale : (Named.named (F := Ideal) κ "inv_temp_log2e" (φ := .f32) 0x41A4E123#32 : EReal) = scaleE :=
  IdealRules.named_const.ideal_named_scalar _ _ _ _ rfl
theorem named_inv : (Named.named (F := Ideal) κ "inv_temp" (φ := .f32) 0x41649249#32 : EReal) = invTemp :=
  IdealRules.named_const.ideal_named_scalar _ _ _ _ rfl

theorem pay7_at (x : Vec Ideal S1024x64 .f32) (r : Fin 1024) (d : Fin 64) :
    k0_pay7 (F := Ideal) x (ix2 r d) = scaled (fun k => x (ix2 r k)) scaleE d := by
  pointwise [k0_pay7, named_scale]

theorem pay2_at (x : Vec Ideal S1024x64 .f32) (y : Vec Ideal S8192x64 .f32) (r : Fin 256) (q : Fin 8192) :
    k0_pay2 (F := Ideal) x y (ix2 r q)
      = Ideal.exp2 ((∑ d : Fin 64, x (ix2 ⟨512 + r.val, by omega⟩ d) * y (ix2 q d)) - scaleE) := by
  pointwise [k0_pay2, named_scale]
  rfl

theorem pay3_at (x : Vec Ideal S1024x64 .f32) (y : Vec Ideal S8192x64 .f32) (r : Fin 256) (q : Fin 8192) :
    k0_pay3 (F := Ideal) x y (ix2 r q)
      = Ideal.exp2 ((∑ d : Fin 64, x (ix2 ⟨768 + r.val, by omega⟩ d) * y (ix2 q d)) - scaleE) := by
  pointwise [k0_pay3, named_scale]
  rfl

theorem pay9_at (x : Vec Ideal S1024x64 .f32) (y : Vec Ideal S8192x64 .f32) (r : Fin 256) (q : Fin 8192) :
    k0_pay9 (F := Ideal) x y (ix2 r q)
      = Ideal.exp2 ((∑ d : Fin 64, k0_pay7 (F := Ideal) x (ix2 ⟨r.val, by omega⟩ d) * y (ix2 q d)) - scaleE) := by
  pointwise [k0_pay9, named_scale]
  rfl

theorem pay10_at (x : Vec Ideal S1024x64 .f32) (y : Vec Ideal S8192x64 .f32) (r : Fin 256) (q : Fin 8192) :
    k0_pay1 (F := Ideal) (k0_pay10 x y) (ix2 r q)
      = Ideal.exp2 ((∑ d : Fin 64, k0_pay7 (F := Ideal) x (ix2 ⟨256 + r.val, by omega⟩ d) * y (ix2 q d)) - scaleE) := by
  pointwise [k0_pay1, k0_pay10, named_scale]
  rfl

theorem pay6_at (x : S8x8192.Idx) : k0_pay6 (F := Ideal) x = (1 : EReal) := by
  rw [eq_ix2 x]
  pointwise [k0_pay6]

theorem pay5_at (r : Fin 1032) (c : Fin 1024) : k0_pay5 (F := Ideal) (ix2 r c) = (0 : EReal) := by
  pointwise [k0_pay5]

theorem one_word : (FloatOps.sitofp FTy.f32 1#32 : Ideal .f32) = (1 : EReal) := by
  show (((1#32 : BitVec 32).toInt : ℝ) : EReal) = 1
  norm_num
theorem zero_word : (FloatOps.sitofp FTy.f32 (BitVec.setWidth 32 (BitVec.ofBool false)) : Ideal .f32) = (0 : EReal) := by
  show (((BitVec.setWidth 32 (BitVec.ofBool false) : BitVec 32).toInt : ℝ) : EReal) = 0
  norm_num

theorem pay8_at (x : Vec Ideal S8192x1 .i32) (q : Fin 8192) (c : Fin 1024) :
    k0_pay8 (F := Ideal) x (ix2 q c) = if x (ix2 q 0) = BitVec.ofNat 32 c.val then (1 : EReal) else 0 := by
  pointwise [k0_pay8]
  by_cases h : x (ix2 q 0) = BitVec.ofNat 32 c.val
  · rw [if_pos h, h]
    simp [IntOp.cmpi]
    exact one_word
  · have e : (x (ix2 q 0) == BitVec.ofNat 32 c.val) = false := by simpa using h
    rw [if_neg h]
    simp only [IntOp.cmpi, e]
    exact zero_word

theorem pay4_at (v : FVec Ideal S8192x1024 .bf16) (a : Vec Ideal S1032x1024 .f32) (w : Vec Ideal S1032x8192 .bf16) (r : Fin 1032) (c : Fin 1024) :
    k0_pay4 (F := Ideal) v a w (ix2 r c) = a (ix2 r c) + ∑ q : Fin 8192, w (ix2 r q) * v (ix2 q c) := by
  pointwise [k0_pay4]

/-- The weight of a queue row for row `r` of the scratch: a power of two for a feature row, one below. -/
abbrev weight (x : Fin 1024 → Fin 64 → EReal) (y : Fin 64 → EReal) (r : Fin 1032) : EReal :=
  if h : r.val < 1024 then Ideal.exp2 ((∑ d : Fin 64, scaled (x ⟨r.val, h⟩) scaleE d * y d) - scaleE) else 1

theorem weight_row (x : Fin 1024 → Fin 64 → EReal) (y : Fin 64 → EReal) (r : Fin 1032) (i : Fin 1024) (h : r.val = i.val) :
    weight x y r = Ideal.exp2 ((∑ d : Fin 64, scaled (x i) scaleE d * y d) - scaleE) := by
  obtain ⟨r, hr⟩ := r
  obtain ⟨i, hi⟩ := i
  obtain rfl : r = i := h
  exact dif_pos hi

theorem weight_ones (x : Fin 1024 → Fin 64 → EReal) (y : Fin 64 → EReal) (r : Fin 1032) (h : 1024 ≤ r.val) : weight x y r = 1 :=
  dif_neg (by omega)

/-- The scratch of a pass as one function of its index. -/
abbrev filled (x : Vec Ideal S1024x64 .f32) (y : Vec Ideal S8192x64 .f32) (j : S1032x8192.Idx) : EReal :=
  weight (fun r k => x (ix2 r k)) (fun d => y (ix2 (j 1) d)) (j 0)

theorem block_at (x : Vec Ideal S1024x64 .f32) (y : Vec Ideal S8192x64 .f32) (o : ℕ) (ho : o + 256 ≤ 1024)
    (inb : ∀ k, (![o, 0] : Fin 2 → ℕ) k + S256x8192.size k ≤ S1032x8192.size k) (v : Vec Ideal S256x8192 .bf16)
    (hv : ∀ (r : Fin 256) (q : Fin 8192), v (ix2 r q)
      = Ideal.exp2 ((∑ d : Fin 64, scaled (fun k => x (ix2 ⟨o + r.val, by omega⟩ k)) scaleE d * y (ix2 q d)) - scaleE))
    (j : S256x8192.Idx) : v j = filled x y ((Rect.unit (s := S1032x8192) ![o, 0] S256x8192.size inb).emb j) := by
  have e0 : (((Rect.unit (s := S1032x8192) ![o, 0] S256x8192.size inb).emb j) 0).val = o + (j 0).val := by
    show o + 1 * (j 0).val = _; omega
  have e1 : (((Rect.unit (s := S1032x8192) ![o, 0] S256x8192.size inb).emb j) 1) = (j 1 : Fin 8192) := Fin.ext (by
    show 0 + 1 * (j 1).val = _; omega)
  have hj : (j 0).val < 256 := (j 0).isLt
  rw [filled, weight_row _ _ _ ⟨o + (j 0).val, by omega⟩ e0, e1]
  have := hv (j 0) (j 1)
  rw [← eq_ix2 (n0 := 256) (n1 := 8192) j] at this
  exact this

theorem weights_at (x : Vec Ideal S1024x64 .f32) (y : Vec Ideal S8192x64 .f32) (r : Fin 1032) (q : Fin 8192) :
    weights (F := Ideal) x y (ix2 r q) = weight (fun r k => x (ix2 r k)) (fun d => y (ix2 q d)) r := by
  refine (View.canon_apply_of_pieces (Val := Elt Ideal) (S := S1032x8192) (e := .bf16) (filled x y) (pieces x y) ?_ (ix2 r q)
    (pieces_fill _ _ _ _ _ _)).trans rfl
  intro p hp j
  simp only [pieces, List.mem_cons, List.not_mem_nil, or_false] at hp
  rcases hp with rfl | rfl | rfl | rfl | rfl
  · refine block_at x y 768 (by norm_num) inb_S1032x8192_S256x8192_768_0 _ (fun r q => ?_) j
    refine (pay3_at _ _ r q).trans ?_
    simp only [pay7_at]
  · refine block_at x y 512 (by norm_num) inb_S1032x8192_S256x8192_512_0 _ (fun r q => ?_) j
    refine (pay2_at _ _ r q).trans ?_
    simp only [pay7_at]
  · refine block_at x y 256 (by norm_num) inb_S1032x8192_S256x8192_256_0 _ (fun r q => ?_) j
    refine (pay10_at _ _ r q).trans ?_
    simp only [pay7_at]
  · refine block_at x y 0 (by norm_num) inb_S1032x8192_S256x8192_0_0 _ (fun r q => ?_) j
    refine (pay9_at _ _ r q).trans ?_
    simp only [pay7_at, Nat.zero_add]
  · exact (pay6_at j).trans (weight_ones _ _ _ (last_rows_low j)).symm

theorem pass_at (x : Vec Ideal S1024x64 .f32) (y : Vec Ideal S8192x64 .f32) (l : Vec Ideal S8192x1 .i32) (a : Vec Ideal S1032x1024 .f32)
    (r : Fin 1032) (c : Fin 1024) :
    pass (F := Ideal) x y l a (ix2 r c) = a (ix2 r c) + ∑ q : Fin 8192,
      weight (fun r k => x (ix2 r k)) (fun d => y (ix2 q d)) r * (if l (ix2 q 0) = BitVec.ofNat 32 c.val then 1 else 0) := by
  rw [pass, pay4_at]
  simp only [weights_at, pay8_at]

end Cert.KernelIdeal.Hand

end
-- ==== Proof.Value.Accum.lean ====
/- What the first kernel leaves in the accumulator, as sums over the whole queue. -/
module

public import proofs.«01_k».proof.Proof.Value.Stage0
public import proofs.«01_k».proof.Proof.Ideal.Run
public import Idealize.ShloMosaic.Lib.Pipeline.ValueKit

@[expose] public section

set_option maxRecDepth 16384

noncomputable section

namespace Cert.KernelIdeal.Hand

open Cert.KernelIdeal.Gen hiding V0 V1 V2 V3 V4 segs
open Idealize.ShloMosaic Idealize.ShloMosaic.TcCoe Idealize.ShloMosaic.Tactic
open Idealize.SL.Sem

variable (V : (c : Dev nD) → (b : Ref sig .tc) → Buf (Elt Ideal) ((c : Thread nD τ).loc b))

theorem index_0_0 : ∀ (t : Fin grid0.N) (a : Fin 2), win0_0.index t a = 0 := by decide +kernel
theorem index_0_1 : ∀ t : Fin grid0.N, win0_1.index t 0 = t.val ∧ win0_1.index t 1 = 0 := by decide +kernel
theorem index_0_2 : ∀ t : Fin grid0.N, win0_2.index t 0 = t.val ∧ win0_2.index t 1 = 0 := by decide +kernel
theorem index_0_3 : ∀ (t : Fin grid0.N) (a : Fin 2), win0_3.index t a = 0 := by decide +kernel

theorem emb_block (c : Dev nD) (t : Fin cfg0.N) (r : Fin 1024) (k : Fin 64) :
    (blk0 (F := Ideal) V c 0 t : Vec Ideal S1024x64 .f32) (ix2 r k) = (V c main_arg1 : Vec Ideal S1024x64 .f32) (ix2 r k) := by
  unfold blk0
  show (V c main_arg1 : Vec Ideal S1024x64 .f32) (((cfg0.win 0).blk t).view.emb (ix2 r k)) = _
  refine congrArg _ (funext fun a => Fin.ext ?_)
  fin_cases a
  · blk_simp; rw [index_0_0 t 0]; simp
  · blk_simp; rw [index_0_0 t 1]; simp

theorem queue_block (c : Dev nD) (t : Fin cfg0.N) (q : Fin 8192) (k : Fin 64) (h : t.val * 8192 + q.val < 65536) :
    (blk0 (F := Ideal) V c 1 t : Vec Ideal S8192x64 .f32) (ix2 q k)
      = (V c main_arg5 : Vec Ideal S65536x64 .f32) (ix2 ⟨t.val * 8192 + q.val, h⟩ k) := by
  unfold blk0
  show (V c main_arg5 : Vec Ideal S65536x64 .f32) (((cfg0.win 1).blk t).view.emb (ix2 q k)) = _
  refine congrArg _ (funext fun a => Fin.ext ?_)
  fin_cases a
  · blk_simp; rw [(index_0_1 t).1]; rfl
  · blk_simp; rw [(index_0_1 t).2]; simp

theorem label_block (c : Dev nD) (t : Fin cfg0.N) (q : Fin 8192) (h : t.val * 8192 + q.val < 65536) :
    (blk0 (F := Ideal) V c 2 t : Vec Ideal S8192x1 .i32) (ix2 q 0)
      = (V c main_v5 : Vec Ideal S65536x1 .i32) (ix2 ⟨t.val * 8192 + q.val, h⟩ 0) := by
  unfold blk0
  show (V c main_v5 : Vec Ideal S65536x1 .i32) (((cfg0.win 2).blk t).view.emb (ix2 q 0)) = _
  refine congrArg _ (funext fun a => Fin.ext ?_)
  fin_cases a
  · blk_simp; rw [(index_0_2 t).1]; rfl
  · blk_simp; rw [(index_0_2 t).2]

/-- What queue row `i` adds to the accumulator at row `r`, column `k`; nothing off the queue. -/
def share (c : Dev nD) (r : Fin 1032) (k : Fin 1024) (i : ℕ) : EReal :=
  if h : i < 65536 then
    weight (fun r k => (V c main_arg1 : Vec Ideal S1024x64 .f32) (ix2 r k))
        (fun d => (V c main_arg5 : Vec Ideal S65536x64 .f32) (ix2 ⟨i, h⟩ d)) r
      * (if (V c main_v5 : Vec Ideal S65536x1 .i32) (ix2 ⟨i, h⟩ 0) = BitVec.ofNat 32 k.val then 1 else 0)
  else 0

theorem pass_share (c : Dev nD) (t : Fin cfg0.N) (a : Vec Ideal S1032x1024 .f32) (r : Fin 1032) (k : Fin 1024) :
    pass (F := Ideal) (blk0 V c 0 t) (blk0 V c 1 t) (blk0 V c 2 t) a (ix2 r k)
      = a (ix2 r k) + ∑ q ∈ Finset.range 8192, share V c r k (t.val * 8192 + q) := by
  have ht : t.val < 8 := Nat.lt_of_lt_of_eq t.isLt N_0
  refine (pass_at _ _ _ _ _ _).trans ?_
  rw [Finset.sum_range]
  refine congrArg _ (Finset.sum_congr rfl fun q _ => ?_)
  have h : t.val * 8192 + q.val < 65536 := by omega
  rw [share, dif_pos h, label_block V c t q h]
  have e1 : (fun d => (blk0 (F := Ideal) V c 1 t : Vec Ideal S8192x64 .f32) (ix2 q d))
      = fun d => (V c main_arg5 : Vec Ideal S65536x64 .f32) (ix2 ⟨t.val * 8192 + q.val, h⟩ d) := funext fun d => queue_block V c t q d h
  have e0 : (fun (r : Fin 1024) (k : Fin 64) => (blk0 (F := Ideal) V c 0 t : Vec Ideal S1024x64 .f32) (ix2 r k))
      = fun r k => (V c main_arg1 : Vec Ideal S1024x64 .f32) (ix2 r k) := funext fun r => funext fun k => emb_block V c t r k
  rw [e0, e1]

theorem acc_share (c : Dev nD) (r : Fin 1032) (k : Fin 1024) : ∀ (n : ℕ) (h : n < cfg0.N),
    accAt (F := Ideal) V c n h (ix2 r k) = ∑ q ∈ Finset.range ((n + 1) * 8192), share V c r k q
  | 0, h => by
    refine (pass_share V c ⟨0, h⟩ _ r k).trans ?_
    rw [pay5_at, zero_add]
    simp
  | n + 1, h => by
    refine (pass_share V c ⟨n + 1, h⟩ _ r k).trans ?_
    rw [acc_share c r k n, show (n + 1 + 1) * 8192 = (n + 1) * 8192 + 8192 by ring, Finset.sum_range_add]

/-- The grid's last point. -/
def lastPoint : Fin cfg0.N := ⟨7, Nat.lt_of_lt_of_eq (by norm_num) N_0.symm⟩
theorem last_whole : (cfg0.win 3).WholeAt lastPoint := by
  unfold lastPoint
  decide +kernel

/-- The accumulator at the end. -/
theorem acc_last (c : Dev nD) (r : Fin 1032) (k : Fin 1024) :
    ((dat0 (F := Ideal) V c).arrAt 3 cfg0.N : Vec Ideal S1032x1024 .f32) (ix2 r k) = ∑ q : Fin 65536,
      weight (fun r k => (V c main_arg1 : Vec Ideal S1024x64 .f32) (ix2 r k))
          (fun d => (V c main_arg5 : Vec Ideal S65536x64 .f32) (ix2 q d)) r
        * (if (V c main_v5 : Vec Ideal S65536x1 .i32) (ix2 q 0) = BitVec.ofNat 32 k.val then 1 else 0) := by
  have e : (dat0 (F := Ideal) V c).arrAt 3 cfg0.N = accAt V c lastPoint.val lastPoint.isLt := by
    refine (dat0 (F := Ideal) V c).arrAt_eq_of_after_last 3 lastPoint last_whole _ fun j => ?_
    rw [left0_3]
    blk_simp
    rfl
  refine (congrFun e (ix2 r k)).trans ((acc_share V c r k 7 lastPoint.isLt).trans ?_)
  rw [Finset.sum_range]
  refine Finset.sum_congr rfl fun q _ => ?_
  rw [share, dif_pos q.isLt]

end Cert.KernelIdeal.Hand

end
-- ==== Proof.Value.Stage1.lean ====
/- The second kernel's payloads read at an index, over the extended reals. -/
module

public import proofs.«01_k».proof.Proof.Value.Stage0
public import proofs.«01_k».proof.Proof.Value.Words
public import proofs.«01_k».proof.Proof.Ideal.Region1

@[expose] public section

set_option maxRecDepth 16384

noncomputable section

namespace Cert.KernelIdeal.Hand

open Cert.KernelIdeal.Gen
open Idealize.ShloMosaic Cert.Forms

theorem k1_pay2_at (x : Vec Ideal S1024x1000 .f32) (y : Vec Ideal S1x1000 .f32) (r : Fin 1024) (c : Fin 1000) :
    k1_pay2 (F := Ideal) x y (ix2 r c) = density (x (ix2 r c)) (y (ix2 0 c)) := by
  pointwise [k1_pay2, named_inv]

theorem k1_pay3_at (x : Vec Ideal S1024x64 .f32) (y : Vec Ideal S1000x64 .f32) (r : Fin 1024) (c : Fin 1000) :
    k1_pay3 (F := Ideal) x y (ix2 r c) = ∑ d : Fin 64, unit (fun k => x (ix2 r k)) d * unit (fun k => y (ix2 c k)) d := by
  pointwise [k1_pay3]

theorem k1_pay5_at (a b : FVec Ideal S1024x1000 .f32) (r : Fin 1024) (c : Fin 1000) :
    k1_pay5 (F := Ideal) a b k1_pay4 (ix2 r c) = joined (b (ix2 r c) * invTemp) (a (ix2 r c)) := by
  pointwise [k1_pay5, k1_pay4, named_inv]

theorem k1_pay6_at (x : Vec Ideal S1024x1 .i32) (r : Fin 1024) (c : Fin 1000) :
    k1_pay6 (F := Ideal) x (ix2 r c) = BitVec.ofBool (decide (x (ix2 r 0) = BitVec.ofNat 32 c.val)) := by
  pointwise [k1_pay6]
  rfl

theorem k1_pay8_at (a b : FVec Ideal S1024x1000 .f32) (r : Fin 1024) :
    k1_pay8 (F := Ideal) a b k1_pay4 (ix2 r 0) = rowLog fun c => k1_pay5 (F := Ideal) a b k1_pay4 (ix2 r c) := by
  pointwise [k1_pay8, Words.bot_word]

theorem k1_pay9_at (a b : FVec Ideal S1024x1000 .f32) (x : Vec Ideal S1024x1 .i32) (r : Fin 1024) :
    k1_pay9 (F := Ideal) a b k1_pay4 x (ix1 r) = rowPick (fun c => k1_pay5 (F := Ideal) a b k1_pay4 (ix2 r c)) (x (ix2 r 0)) := by
  pointwise [k1_pay9, k1_pay6_at]

theorem k1_pay7_at (x : Vec Ideal S1024x1 .i32) (y : Vec Ideal S1024x1000 .f32) :
    k1_pay7 (F := Ideal) x y = (∑ r : Fin 1024, (rowLog (fun c => y (ix2 r c)) - rowPick (fun c => y (ix2 r c)) (x (ix2 r 0))))
      * ((1 / 1024 : ℝ) : EReal) := by
  pointwise [k1_pay7, k1_pay6_at]
  simp only [Finset.univ_unique, Finset.sum_singleton, Words.inv_rows_word, Words.bot_word]

theorem k1_pay1_at (a : EReal) (v : FVec Ideal S1024x1 .f32) (w : FVec Ideal S1024 .f32) (i : Fin 8) (j : Fin 128) :
    k1_pay1 (F := Ideal) a v w (ix2 i j) = a + Ideal.ofBits .f32 0x3DCCCCCD#32 *
      ((∑ r : Fin 1024, (v (ix2 r 0) - w (ix1 r))) * ((1 / 1024 : ℝ) : EReal)) := by
  pointwise [k1_pay1]
  simp only [Finset.univ_unique, Finset.sum_singleton, Words.inv_rows_word]

/-- What the second kernel stores, from the blocks it loads. -/
theorem final_at (x0 : Vec Ideal S1024x1000 .f32) (x1 : Vec Ideal S1024x64 .f32) (x2 : Vec Ideal S1024x1 .i32) (x3 : Vec Ideal S1000x64 .f32)
    (x4 : Vec Ideal S1032x1024 .f32) (i : Fin 8) (j : Fin 128) :
    final (F := Ideal) x0 x1 x2 x3 x4 (ix2 i j)
      = (∑ r : Fin 1024, (rowLog (fun c => x0 (ix2 r c)) - rowPick (fun c => x0 (ix2 r c)) (x2 (ix2 r 0)))) * ((1 / 1024 : ℝ) : EReal)
        + Ideal.ofBits .f32 0x3DCCCCCD#32 * ((∑ r : Fin 1024,
          (rowLog (fun c => joined ((∑ d : Fin 64, unit (fun k => x1 (ix2 r k)) d * unit (fun k => x3 (ix2 c k)) d) * invTemp)
              (density (x4 (ix2 ⟨r.val, by omega⟩ ⟨c.val, by omega⟩)) (x4 (ix2 ⟨1024, by omega⟩ ⟨c.val, by omega⟩))))
            - rowPick (fun c => joined ((∑ d : Fin 64, unit (fun k => x1 (ix2 r k)) d * unit (fun k => x3 (ix2 c k)) d) * invTemp)
              (density (x4 (ix2 ⟨r.val, by omega⟩ ⟨c.val, by omega⟩)) (x4 (ix2 ⟨1024, by omega⟩ ⟨c.val, by omega⟩)))) (x2 (ix2 r 0))))
            * ((1 / 1024 : ℝ) : EReal)) := by
  have hs : ∀ (r : Fin 1024) (c : Fin 1000), View.ld x4 sumRows (ix2 r c) = x4 (ix2 ⟨r.val, by omega⟩ ⟨c.val, by omega⟩) := fun r c => by
    pointwise []
  have hn : ∀ c : Fin 1000, View.ld x4 countRow (ix2 0 c) = x4 (ix2 ⟨1024, by omega⟩ ⟨c.val, by omega⟩) := fun c => by
    pointwise []
  refine (k1_pay1_at _ _ _ _ _).trans ?_
  simp only [k1_pay7_at, k1_pay8_at, k1_pay9_at, k1_pay5_at, k1_pay3_at, k1_pay2_at, hs, hn]

end Cert.KernelIdeal.Hand

end
-- ==== Proof.Value.Result.lean ====
/- The kernel's result as a formula in the launch contents of its arguments. -/
module

public import proofs.«01_k».proof.Proof.Value.Accum
public import proofs.«01_k».proof.Proof.Value.Stage1

@[expose] public section

set_option maxRecDepth 16384

noncomputable section

namespace Cert.KernelIdeal.Hand

open Cert.KernelIdeal.Gen hiding V0 V1 V2 V3 V4 segs
open Cert.Forms Idealize.ShloMosaic Idealize.ShloMosaic.TcCoe Idealize.ShloMosaic.Tactic
open Idealize.SL.Sem

variable (m : (ℓ : Loc nD τ sig) → Buf (Elt Ideal) ℓ) (g : Dev nD → PrngReg) (c : Dev nD)

/-! ## The arguments -/
abbrev logits : Vec Ideal S1024x1000 .f32 := m ((c.tc : Thread nD τ).loc main_arg0)
abbrev emb : Vec Ideal S1024x64 .f32 := m ((c.tc : Thread nD τ).loc main_arg1)
abbrev targets : Vec Ideal S1024 .i32 := m ((c.tc : Thread nD τ).loc main_arg2)
abbrev centers : Vec Ideal S1000x64 .f32 := m ((c.tc : Thread nD τ).loc main_arg3)
abbrev ready : Vec Ideal S1000 .i1 := m ((c.tc : Thread nD τ).loc main_arg4)
abbrev queue : Vec Ideal S65536x64 .f32 := m ((c.tc : Thread nD τ).loc main_arg5)
abbrev labels : Vec Ideal S65536 .i32 := m ((c.tc : Thread nD τ).loc main_arg6)

theorem v5_at (q : Fin 65536) : (at1 (F := Ideal) m g c (Proc.devRef .tc main_v5) : Vec Ideal S65536x1 .i32) (ix2 q 0) = labels m c (ix1 q) := by
  have e : (at1 (F := Ideal) m g c (Proc.devRef .tc main_v5) : Vec Ideal S65536x1 .i32) = shapeCast S65536x1 (labels m c) shapeCasts_S65536_S65536x1 := by
    unfold at1
    after_results
    rfl
  rw [e]
  pointwise []

theorem v4_at (r : Fin 1024) : (at1 (F := Ideal) m g c (Proc.devRef .tc main_v4) : Vec Ideal S1024x1 .i32) (ix2 r 0) = targets m c (ix1 r) := by
  have e : (at1 (F := Ideal) m g c (Proc.devRef .tc main_v4) : Vec Ideal S1024x1 .i32) = shapeCast S1024x1 (targets m c) shapeCasts_S1024_S1024x1 := by
    unfold at1
    after_results
    rfl
  rw [e]
  pointwise []

theorem v3_at (k : Fin 1000) (d : Fin 64) : (at1 (F := Ideal) m g c (Proc.devRef .tc main_v3) : Vec Ideal S1000x64 .f32) (ix2 k d)
    = centers m c (ix2 k d) * (((ready m c (ix1 k)).toNat : ℝ) : EReal) := by
  have e : (at1 (F := Ideal) m g c (Proc.devRef .tc main_v3) : Vec Ideal S1000x64 .f32)
      = mulf (F := Ideal) (φ := .f32) (centers m c) (broadcastInDim S1000x64 ![0, 1] bcast_S1000x1_S1000x64_0_1 (uitofp .f32 (broadcastInDim S1000x1 ![0] bcast_S1000_S1000x1_0 (ready m c)))) := by
    unfold at1
    after_results
  rw [e]
  pointwise []
  rfl

theorem v9_at (i : S_.Idx) : (at4 (F := Ideal) m g c (Proc.devRef .tc main_v9) : Vec Ideal S_ .f32) i
    = (at3 (F := Ideal) m g c (Proc.devRef .tc main_v7) : Vec Ideal S8x128 .f32) (ix2 0 0) := by
  have e : (at4 (F := Ideal) m g c (Proc.devRef .tc main_v9) : Vec Ideal S_ .f32)
      = shapeCast S_ (extractStridedSlice S1x1 ![0, 0] (at3 (F := Ideal) m g c (Proc.devRef .tc main_v7) : Vec Ideal S8x128 .f32) slices_S8x128_S1x1_0_0) shapeCasts_S1x1_S_ := by
    unfold at4
    after_results
    rfl
  rw [e]
  pointwise []

/-! ## The second region's blocks are its arrays -/
section Blocks
variable (V : (c : Dev nD) → (b : Ref sig .tc) → Buf (Elt Ideal) ((c : Thread nD τ).loc b))

theorem index_1_0 : ∀ (t : Fin grid1.N) (a : Fin 2), win1_0.index t a = 0 := by decide +kernel
theorem index_1_1 : ∀ (t : Fin grid1.N) (a : Fin 2), win1_1.index t a = 0 := by decide +kernel
theorem index_1_2 : ∀ (t : Fin grid1.N) (a : Fin 2), win1_2.index t a = 0 := by decide +kernel
theorem index_1_3 : ∀ (t : Fin grid1.N) (a : Fin 2), win1_3.index t a = 0 := by decide +kernel
theorem index_1_4 : ∀ (t : Fin grid1.N) (a : Fin 2), win1_4.index t a = 0 := by decide +kernel

theorem block1_0 (t : Fin cfg1.N) : (blk1 (F := Ideal) V c 0 t : Vec Ideal S1024x1000 .f32) = V c main_arg0 := by
  unfold blk1
  funext j
  show (V c main_arg0 : Vec Ideal S1024x1000 .f32) (((cfg1.win 0).blk t).view.emb j) = _
  refine congrArg _ (funext fun a => Fin.ext ?_)
  fin_cases a
  · blk_simp; rw [index_1_0 t 0]; simp
  · blk_simp; rw [index_1_0 t 1]; simp
theorem block1_1 (t : Fin cfg1.N) : (blk1 (F := Ideal) V c 1 t : Vec Ideal S1024x64 .f32) = V c main_arg1 := by
  unfold blk1
  funext j
  show (V c main_arg1 : Vec Ideal S1024x64 .f32) (((cfg1.win 1).blk t).view.emb j) = _
  refine congrArg _ (funext fun a => Fin.ext ?_)
  fin_cases a
  · blk_simp; rw [index_1_1 t 0]; simp
  · blk_simp; rw [index_1_1 t 1]; simp
theorem block1_2 (t : Fin cfg1.N) : (blk1 (F := Ideal) V c 2 t : Vec Ideal S1024x1 .i32) = V c main_v4 := by
  unfold blk1
  funext j
  show (V c main_v4 : Vec Ideal S1024x1 .i32) (((cfg1.win 2).blk t).view.emb j) = _
  refine congrArg _ (funext fun a => Fin.ext ?_)
  fin_cases a
  · blk_simp; rw [index_1_2 t 0]; simp
  · blk_simp; rw [index_1_2 t 1]
theorem block1_3 (t : Fin cfg1.N) : (blk1 (F := Ideal) V c 3 t : Vec Ideal S1000x64 .f32) = V c main_v3 := by
  unfold blk1
  funext j
  show (V c main_v3 : Vec Ideal S1000x64 .f32) (((cfg1.win 3).blk t).view.emb j) = _
  refine congrArg _ (funext fun a => Fin.ext ?_)
  fin_cases a
  · blk_simp; rw [index_1_3 t 0]; simp
  · blk_simp; rw [index_1_3 t 1]; simp
theorem block1_4 (t : Fin cfg1.N) : (blk1 (F := Ideal) V c 4 t : Vec Ideal S1032x1024 .f32) = V c main_v6 := by
  unfold blk1
  funext j
  show (V c main_v6 : Vec Ideal S1032x1024 .f32) (((cfg1.win 4).blk t).view.emb j) = _
  refine congrArg _ (funext fun a => Fin.ext ?_)
  fin_cases a
  · blk_simp; rw [index_1_4 t 0]; simp
  · blk_simp; rw [index_1_4 t 1]; simp

theorem out_whole : (cfg1.win 5).WholeAt t1_0 := by
  unfold t1_0
  decide +kernel

theorem out_last : ((dat1 (F := Ideal) V c).arrAt 5 cfg1.N : Vec Ideal S8x128 .f32)
    = final (F := Ideal) (V c main_arg0) (V c main_arg1) (V c main_v4) (V c main_v3) (V c main_v6) := by
  have e : (dat1 (F := Ideal) V c).arrAt 5 cfg1.N = finalAt V c t1_0 := by
    refine (dat1 (F := Ideal) V c).arrAt_eq_of_after_last 5 t1_0 out_whole _ fun j => ?_
    rw [left1_5]
    blk_simp
  refine e.trans ?_
  unfold finalAt
  rw [block1_0, block1_1, block1_2, block1_3, block1_4]
end Blocks

/-! ## The result -/

theorem acc_at (r : Fin 1032) (k : Fin 1024) :
    (at2 (F := Ideal) m g c (Proc.devRef .tc main_v6) : Vec Ideal S1032x1024 .f32) (ix2 r k) = ∑ q : Fin 65536,
      weight (fun r k => emb m c (ix2 r k)) (fun d => queue m c (ix2 q d)) r * hit (labels m c (ix1 q)) k.val := by
  have e6 : (at2 (F := Ideal) m g c (Proc.devRef .tc main_v6) : Vec Ideal S1032x1024 .f32)
      = ((dat0 (F := Ideal) (ref1 m g) c).arrAt 3 cfg0.N : Vec Ideal S1032x1024 .f32) := at2_arr m g c 3
  have e1 : ref1 m g c main_arg1 = emb m c := at1_args m g c main_arg1 (by simp [inputs])
  have e5 : ref1 m g c main_arg5 = queue m c := at1_args m g c main_arg5 (by simp [inputs])
  rw [e6, acc_last (ref1 m g) c r k, e1, e5]
  refine congrArg (Finset.sum (M := EReal) Finset.univ) (funext fun q => ?_)
  exact congrArg (fun l => weight (fun r k => emb m c (ix2 r k)) (fun d => queue m c (ix2 q d)) r * hit l k.val) (v5_at m g c q)

theorem final_form (x0 : Vec Ideal S1024x1000 .f32) (x1 : Vec Ideal S1024x64 .f32) (x2 : Vec Ideal S1024x1 .i32) (x3 : Vec Ideal S1000x64 .f32)
    (x4 : Vec Ideal S1032x1024 .f32) (tg : Fin 1024 → BitVec 32) (ce : Fin 1000 → Fin 64 → EReal) (rd : Fin 1000 → BitVec 1)
    (qu : Fin 65536 → Fin 64 → EReal) (la : Fin 65536 → BitVec 32) (h2 : ∀ r, x2 (ix2 r 0) = tg r)
    (h3 : ∀ k d, x3 (ix2 k d) = ce k d * (((rd k).toNat : ℝ) : EReal))
    (h4 : ∀ r k, x4 (ix2 r k) = ∑ q : Fin 65536, weight (fun r k => x1 (ix2 r k)) (qu q) r * hit (la q) k.val) (i : Fin 8) (j : Fin 128) :
    final (F := Ideal) x0 x1 x2 x3 x4 (ix2 i j) = kernelLoss (fun r k => x0 (ix2 r k)) (fun r k => x1 (ix2 r k)) tg ce rd qu la := by
  rw [final_at]
  have hr : ∀ (r : Fin 1024) (k : Fin 1024), x4 (ix2 ⟨r.val, by omega⟩ k) = ∑ q : Fin 65536, pull (fun k => x1 (ix2 r k)) (qu q) * hit (la q) k.val :=
    fun r k => (h4 _ k).trans (Finset.sum_congr rfl fun q _ => by rw [weight_row _ _ _ r rfl])
  have hc : ∀ k : Fin 1024, x4 (ix2 ⟨1024, by omega⟩ k) = ∑ q : Fin 65536, 1 * hit (la q) k.val :=
    fun k => (h4 _ k).trans (Finset.sum_congr rfl fun q _ => by rw [weight_ones _ _ _ le_rfl])
  simp only [h2, h3, hr, hc]
  rfl

theorem result (i : S_.Idx) : (at4 (F := Ideal) m g c (Proc.devRef .tc main_v9) : Vec Ideal S_ .f32) i
    = kernelLoss (fun r k => logits m c (ix2 r k)) (fun r k => emb m c (ix2 r k)) (fun r => targets m c (ix1 r))
      (fun k d => centers m c (ix2 k d)) (fun k => ready m c (ix1 k)) (fun q d => queue m c (ix2 q d)) (fun q => labels m c (ix1 q)) := by
  have e0 : ref2 m g c main_arg0 = logits m c := at2_args m g c main_arg0 (by simp [inputs])
  have e1 : ref2 m g c main_arg1 = emb m c := at2_args m g c main_arg1 (by simp [inputs])
  have e4 : ref2 m g c main_v4 = at1 m g c (Proc.devRef .tc main_v4) := at2_off m g c main_v4 (by decide +kernel)
  have e3 : ref2 m g c main_v3 = at1 m g c (Proc.devRef .tc main_v3) := at2_off m g c main_v3 (by decide +kernel)
  have e7 : (at3 (F := Ideal) m g c (Proc.devRef .tc main_v7) : Vec Ideal S8x128 .f32)
      = final (F := Ideal) (logits m c) (emb m c) (at1 m g c (Proc.devRef .tc main_v4)) (at1 m g c (Proc.devRef .tc main_v3))
          (at2 m g c (Proc.devRef .tc main_v6)) := by
    refine ((at3_arr m g c 5).trans (out_last c (ref2 m g))).trans ?_
    rw [e0, e1, e4, e3]
  rw [v9_at, e7]
  exact final_form _ _ _ _ _ _ _ _ _ _ (v4_at m g c) (v3_at m g c) (acc_at m g c) 0 0

end Cert.KernelIdeal.Hand

end
-- ==== Proof.Value.Lookup.lean ====
/- The reference's lookups: where an update lands and which entry is taken. -/
module

public import Idealize.ShloMosaic.Lib.Routing.OpsPair
public import Idealize.ShloMosaic.Lib.Pointwise
public import Idealize.ShloMosaic.Lib.Pointwise.Tactic
public import Idealize.ShloMosaic.Lib.IdealHost
public import proofs.«01_k».proof.Proof.Gen.ReferenceIdeal.Run

@[expose] public section

set_option maxRecDepth 16384

noncomputable section

namespace Cert.ReferenceIdeal.Value

open Cert.ReferenceIdeal.Gen
open Idealize.ShloMosaic Idealize.ShloMosaic.Routing

/-- The count scatter: update `q` lands at class `e` when its word is `e`. -/
theorem lands1 (idx : IVec S65536x1 32) (q : Fin 65536) (e : Fin 1001) :
    scatter_S1001_S65536x1_S65536_n_0_0_1.resultIdx? (ix1 q) idx = some (ix1 e) ↔ (idx (ix2 q 0)).toInt = (e.val : ℤ) := by
  rw [resultIdx?_eq_some]
  have h1 : scatter_S1001_S65536x1_S65536_n_0_0_1.start (ix1 q) idx 0 = (idx (ix2 q 0)).toInt := by
    refine congrArg (fun j => (idx j).toInt) (funext fun b => Fin.ext ?_)
    match b with
    | ⟨0, _⟩ => rfl
    | ⟨1, _⟩ => rfl
  have h2 : scatter_S1001_S65536x1_S65536_n_0_0_1.window (ix1 q) 0 = 0 := rfl
  constructor
  · intro h
    have h0 := h 0
    rw [h1, h2] at h0
    simpa using h0
  · intro h a
    match a with
    | ⟨0, _⟩ => exact (congrArg₂ (fun (s : ℤ) (w : ℕ) => s + (w : ℤ)) h1 h2).trans (by simpa using h)

/-- The weights scatter: update `(q, r')` lands at `(e, r)` when its word is `e` and the columns agree. -/
theorem lands2 (idx : IVec S65536x1 32) (q : Fin 65536) (r' : Fin 1024) (e : Fin 1001) (r : Fin 1024) :
    scatter_S1001x1024_S65536x1_S65536x1024_1_0_0_1.resultIdx? (ix2 q r') idx = some (ix2 e r)
      ↔ (idx (ix2 q 0)).toInt = (e.val : ℤ) ∧ r' = r := by
  rw [resultIdx?_eq_some]
  have h1 : scatter_S1001x1024_S65536x1_S65536x1024_1_0_0_1.start (ix2 q r') idx 0 = (idx (ix2 q 0)).toInt := by
    refine congrArg (fun j => (idx j).toInt) (funext fun b => Fin.ext ?_)
    match b with
    | ⟨0, _⟩ => rfl
    | ⟨1, _⟩ => rfl
  have h2 : scatter_S1001x1024_S65536x1_S65536x1024_1_0_0_1.window (ix2 q r') 0 = 0 := rfl
  have h3 : scatter_S1001x1024_S65536x1_S65536x1024_1_0_0_1.start (ix2 q r') idx 1 = 0 := rfl
  have h4 : scatter_S1001x1024_S65536x1_S65536x1024_1_0_0_1.window (ix2 q r') 1 = r'.val := rfl
  constructor
  · intro h
    have h0 := h 0
    have h0' := h 1
    rw [h1, h2] at h0
    rw [h3, h4] at h0'
    refine ⟨by simpa using h0, Fin.ext ?_⟩
    have : (r'.val : ℤ) = (r.val : ℤ) := by simpa using h0'
    omega
  · rintro ⟨h, rfl⟩ a
    match a with
    | ⟨0, _⟩ => exact (congrArg₂ (fun (s : ℤ) (w : ℕ) => s + (w : ℤ)) h1 h2).trans (by simpa using h)
    | ⟨1, _⟩ => exact (congrArg₂ (fun (s : ℤ) (w : ℕ) => s + (w : ℤ)) h3 h4).trans (by simp)

theorem sum_vec {n : ℕ} (f : (⟨1, ![n]⟩ : Shape).Idx → EReal) : ∑ i, f i = ∑ a : Fin n, f (ix1 a) :=
  Fintype.sum_equiv (Equiv.piUnique fun a : Fin 1 => Fin ((![n] : Fin 1 → ℕ) a)) _ _ fun i => congrArg f (ValueIdx.eq_ix1 i)

/-- The counts: an entry plus the updates whose word names it. -/
theorem count_at (x : Vec Ideal S1001 .f32) (idx : IVec S65536x1 32) (upd : Vec Ideal S65536 .f32) (e : Fin 1001) :
    Host.scatterAdd (F := Ideal) (φ := .f32) scatter_S1001_S65536x1_S65536_n_0_0_1 x idx upd (ix1 e)
      = (x (ix1 e) + ∑ q ∈ Finset.univ.filter (fun q : Fin 65536 => (idx (ix2 q 0)).toInt = (e.val : ℤ)), upd (ix1 q) : EReal) := by
  show Ideal.hostScatterAdd _ x idx upd (ix1 e) = _
  unfold Ideal.hostScatterAdd
  refine congrArg (x (ix1 e) + ·) ?_
  rw [Finset.sum_filter, Finset.sum_filter]
  refine (sum_vec _).trans (Finset.sum_congr rfl fun q _ => ?_)
  simp only [lands1]

/-- The weights: an entry plus the updates of its column whose word names its row. -/
theorem weight_at (x : Vec Ideal S1001x1024 .f32) (idx : IVec S65536x1 32) (upd : Vec Ideal S65536x1024 .f32) (e : Fin 1001) (r : Fin 1024) :
    Host.scatterAdd (F := Ideal) (φ := .f32) scatter_S1001x1024_S65536x1_S65536x1024_1_0_0_1 x idx upd (ix2 e r)
      = (x (ix2 e r) + ∑ q ∈ Finset.univ.filter (fun q : Fin 65536 => (idx (ix2 q 0)).toInt = (e.val : ℤ)), upd (ix2 q r) : EReal) := by
  show Ideal.hostScatterAdd _ x idx upd (ix2 e r) = _
  unfold Ideal.hostScatterAdd
  refine congrArg (x (ix2 e r) + ·) ?_
  rw [Finset.sum_filter, Finset.sum_filter]
  refine (ValueIdx.sum_idx2 _).trans (Finset.sum_congr rfl fun q _ => ?_)
  have h : ∀ r' : Fin 1024, (if scatter_S1001x1024_S65536x1_S65536x1024_1_0_0_1.resultIdx? (ValueIdx.ix2 q r') idx = some (ix2 e r)
      then upd (ValueIdx.ix2 q r') else (0 : EReal)) = if r' = r then (if (idx (ix2 q 0)).toInt = (e.val : ℤ) then upd (ix2 q r) else 0) else 0 := fun r' => by
    have hx : (ValueIdx.ix2 q r' : S65536x1024.Idx) = ix2 q r' := ((ValueIdx.eq_ix2 (n0 := 65536) (n1 := 1024) (ix2 q r'))).symm
    rw [hx]
    simp only [lands2]
    by_cases e1 : r' = r
    · subst e1; simp
    · simp [e1]
  refine (Finset.sum_congr rfl fun r' _ => h r').trans ?_
  rw [Finset.sum_ite_eq' Finset.univ r]
  simp

/-- The take along a row: entry `(r, 0)` is the row's entry at its word, read signed and held within the row. -/
theorem take_at {α : Type} (x : S1024x1000.Idx → α) (idx : IVec S1024x1x1 32) (r : Fin 1024) :
    Host.gather gather_S1024x1000_S1024x1x1_S1024x1_n_1_0_0_1_2_11 x idx (ix2 r 0)
      = x (ix2 r ⟨min (idx (ix3 r 0 0)).toInt.toNat 999, by omega⟩) := by
  unfold Host.gather
  refine congrArg x (funext fun a => Fin.ext ?_)
  match a with
  | ⟨0, _⟩ =>
    have h1 : gather_S1024x1000_S1024x1x1_S1024x1_n_1_0_0_1_2_11.start (ix2 r 0) idx 0 = 0 := rfl
    have h2 : gather_S1024x1000_S1024x1x1_S1024x1_n_1_0_0_1_2_11.batchCoord (ix2 r 0) 0 = r.val := rfl
    have h3 : gather_S1024x1000_S1024x1x1_S1024x1_n_1_0_0_1_2_11.offCoord (ix2 r 0) 0 = 0 := rfl
    show gather_S1024x1000_S1024x1x1_S1024x1_n_1_0_0_1_2_11.start (ix2 r 0) idx 0
      + gather_S1024x1000_S1024x1x1_S1024x1_n_1_0_0_1_2_11.batchCoord (ix2 r 0) 0
      + gather_S1024x1000_S1024x1x1_S1024x1_n_1_0_0_1_2_11.offCoord (ix2 r 0) 0 = r.val
    rw [h1, h2, h3]
    omega
  | ⟨1, _⟩ =>
    have h : gather_S1024x1000_S1024x1x1_S1024x1_n_1_0_0_1_2_11.start (ix2 r 0) idx 1 = min (idx (ix3 r 0 0)).toInt.toNat 999 := by
      refine congrArg (fun j => min (idx j).toInt.toNat 999) (funext fun b => Fin.ext ?_)
      match b with
      | ⟨0, _⟩ => rfl
      | ⟨1, _⟩ => rfl
      | ⟨2, _⟩ => rfl
    exact h

end Cert.ReferenceIdeal.Value

end
-- ==== Proof.Value.Reference.lean ====
/- The reference's result read at an index, over the extended reals. -/
module

public import proofs.«01_k».proof.Proof.Value.Lookup
public import proofs.«01_k».proof.Proof.Value.Words
public import proofs.«01_k».proof.Proof.Value.Forms
public import Idealize.ShloMosaic.Lib.Tactic.CleanTypes

@[expose] public section

set_option maxRecDepth 16384

noncomputable section

namespace Cert.ReferenceIdeal.Value

open Cert.ReferenceIdeal.Gen
open Idealize.ShloMosaic Idealize.ShloMosaic.Routing Cert.Forms

variable (V : Valuation τ sig (Elt Ideal))

abbrev logits : Vec Ideal S1024x1000 .f32 := V (Proc.devRef .tc main_arg0)
abbrev emb : Vec Ideal S1024x64 .f32 := V (Proc.devRef .tc main_arg1)
abbrev targets : Vec Ideal S1024 .i32 := V (Proc.devRef .tc main_arg2)
abbrev centers : Vec Ideal S1000x64 .f32 := V (Proc.devRef .tc main_arg3)
abbrev ready : Vec Ideal S1000 .i1 := V (Proc.devRef .tc main_arg4)
abbrev queue : Vec Ideal S65536x64 .f32 := V (Proc.devRef .tc main_arg5)
abbrev labels : Vec Ideal S65536 .i32 := V (Proc.devRef .tc main_arg6)

theorem v7_at (r : Fin 1024) (d : Fin 64) :
    (res_main_v7 (F := Ideal) V : Vec Ideal S1024x64 .f32) (ix2 r d) = unit (fun k => emb V (ix2 r k)) d := by
  unfold res_main_v7
  clean_types
  pointwise []

theorem v16_at : (res_main_v16 (F := Ideal) V : Vec Ideal S_ .f32) = fun _ => temp := by
  funext i
  unfold res_main_v16
  clean_types
  pointwise [Words.seven_word, Words.hundred_word]

theorem v22_at (r : Fin 1024) (c : Fin 1000) :
    (res_main_v22 (F := Ideal) V : Vec Ideal S1024x1000 .f32) (ix2 r c)
      = centerLogit (fun k => emb V (ix2 r k)) (fun k => centers V (ix2 c k)) (ready V (ix1 c)) := by
  unfold res_main_v22
  clean_types
  pointwise [v7_at, v16_at, id_eq]
  rfl

theorem v24_at (q : Fin 65536) :
    (res_main_v24 (F := Ideal) V : Vec Ideal S65536 .i1) (ix1 q) = BitVec.ofBool (decide (0 ≤ (labels V (ix1 q)).toInt)) := by
  unfold res_main_v24
  clean_types
  pointwise []
  simp [IntOp.cmpi, BitVec.sle]

theorem v28_at (r : Fin 1024) (q : Fin 65536) :
    (res_main_v28 (F := Ideal) V : Vec Ideal S1024x65536 .f32) (ix2 r q)
      = near (fun k => emb V (ix2 r k)) (fun k => queue V (ix2 q k)) := by
  unfold res_main_v28
  clean_types
  pointwise [v7_at, v16_at]

theorem v32_at (r : Fin 1024) :
    (res_main_v32 (F := Ideal) V : Vec Ideal S1024x1 .f32) (ix2 r 0)
      = peak (fun k => emb V (ix2 r k)) (fun q k => queue V (ix2 q k)) (fun q => labels V (ix1 q)) := by
  unfold res_main_v32 peak
  clean_types
  pointwise [v24_at, v28_at, Words.bot_word, id_eq]

/-- Where a column is neither infinite, itself; nought elsewhere. -/
theorem finite_at (w : FVec Ideal S1024x1 .f32) (r : Fin 1024) :
    (select (cmpf .olt (Host.absf w) (broadcastInDim S1024x1 ![] bcast_S_S1024x1 (constant (F := Ideal) S_ .f32 0x7F800000#32))) w
      (broadcastInDim S1024x1 ![] bcast_S_S1024x1 (id (constant (F := Ideal) S_ .f32 0x00000000#32))) : FVec Ideal S1024x1 .f32) (ix2 r 0)
      = finite (w (ix2 r 0)) := by
  generalize hw : w (ix2 r 0) = p
  pointwise [Words.top_word, id_eq, hw]
  rfl

theorem v36_at (r : Fin 1024) :
    (res_main_v36 (F := Ideal) V : Vec Ideal S1024x1 .f32) (ix2 r 0)
      = shift (fun k => emb V (ix2 r k)) (fun q k => queue V (ix2 q k)) (fun q => labels V (ix1 q)) := by
  unfold res_main_v36
  refine (finite_at _ r).trans ?_
  exact congrArg finite (v32_at V r)

theorem v44_at (q : Fin 65536) :
    (res_main_v44 (F := Ideal) V : Vec Ideal S65536 .i32) (ix1 q) = segment (labels V (ix1 q)) := by
  unfold res_main_v44
  clean_types
  pointwise [v24_at, id_eq]

theorem valid_word (l : BitVec 32) : (FloatOps.uitofp .f32 (BitVec.ofBool (decide (0 ≤ l.toInt))) : Ideal .f32) = valid l := by
  show (((BitVec.ofBool (decide (0 ≤ l.toInt))).toNat : ℝ) : EReal) = valid l
  by_cases h : 0 ≤ l.toInt <;> simp [h]

theorem v55_at (c : Fin 1000) :
    (res_main_v55 (F := Ideal) V : Vec Ideal S1000 .f32) (ix1 c)
      = ∑ q ∈ members (fun q => labels V (ix1 q)) c.val, valid (labels V (ix1 q)) := by
  unfold res_main_v55
  clean_types
  pointwise [count_at, v44_at, v24_at, valid_word]

theorem v70_at (r : Fin 1024) (c : Fin 1000) :
    (res_main_v70 (F := Ideal) V : Vec Ideal S1024x1000 .f32) (ix2 r c)
      = queueLogit (fun k => emb V (ix2 r k)) (fun q k => queue V (ix2 q k)) (fun q => labels V (ix1 q)) c.val := by
  unfold res_main_v70
  clean_types
  pointwise [weight_at, v44_at, v24_at, v28_at, v36_at, v55_at, id_eq, valid_word]

/-- The two log values joined, as the reference prints it. -/
theorem joined_at (a b : FVec Ideal S1024x1000 .f32) (r : Fin 1024) (c : Fin 1000) :
    (select (cmpf .une (subf a b) (subf a b)) (addf a b) (addf (maximumf a b) (Host.log1p (Host.exp (Host.negf (Host.absf (subf a b)))))) :
      FVec Ideal S1024x1000 .f32) (ix2 r c) = joinedAbout (a (ix2 r c)) (b (ix2 r c)) := by
  pointwise []
  rw [if_neg (by simp)]
  rfl

theorem v88_at (c : Fin 1000) : (res_main_v88 (F := Ideal) V : Vec Ideal S1000 .f32) (ix1 c) = evenPrior := by
  unfold res_main_v88
  clean_types
  pointwise []

theorem v91_at (r : Fin 1024) (c : Fin 1000) :
    (res_main_v91 (F := Ideal) V : Vec Ideal S1024x1000 .f32) (ix2 r c) = logits V (ix2 r c) - evenPrior := by
  unfold res_main_v91
  clean_types
  pointwise [v88_at]

theorem v113_at (r : Fin 1024) (c : Fin 1000) :
    (res_main_v113 (F := Ideal) V : Vec Ideal S1024x1000 .f32) (ix2 r c)
      = referencePrior (fun k => emb V (ix2 r k)) (fun k d => centers V (ix2 k d)) (fun k => ready V (ix1 k))
        (fun q k => queue V (ix2 q k)) (fun q => labels V (ix1 q)) c - evenPrior := by
  unfold res_main_v113 res_main_v72
  clean_types
  pointwise [joined_at, v22_at, v70_at, v88_at]
  rfl

/-- A row's greatest entry, or nought. -/
theorem v93_at (r : Fin 1024) :
    (res_main_v93 (F := Ideal) V : Vec Ideal S1024x1 .f32) (ix2 r 0)
      = rowMax fun c => (res_main_v91 (F := Ideal) V : Vec Ideal S1024x1000 .f32) (ix2 r c) := by
  unfold res_main_v93
  clean_types
  pointwise [Words.bot_word]

theorem v97_at (r : Fin 1024) :
    (res_main_v97 (F := Ideal) V : Vec Ideal S1024x1 .f32) (ix2 r 0)
      = finite (rowMax fun c => (res_main_v91 (F := Ideal) V : Vec Ideal S1024x1000 .f32) (ix2 r c)) := by
  unfold res_main_v97
  refine (finite_at _ r).trans ?_
  exact congrArg finite (v93_at V r)

theorem v115_at (r : Fin 1024) :
    (res_main_v115 (F := Ideal) V : Vec Ideal S1024x1 .f32) (ix2 r 0)
      = rowMax fun c => (res_main_v113 (F := Ideal) V : Vec Ideal S1024x1000 .f32) (ix2 r c) := by
  unfold res_main_v115
  clean_types
  pointwise [Words.bot_word]

theorem v119_at (r : Fin 1024) :
    (res_main_v119 (F := Ideal) V : Vec Ideal S1024x1 .f32) (ix2 r 0)
      = finite (rowMax fun c => (res_main_v113 (F := Ideal) V : Vec Ideal S1024x1000 .f32) (ix2 r c)) := by
  unfold res_main_v119
  refine (finite_at _ r).trans ?_
  exact congrArg finite (v115_at V r)

theorem call6_at (r : Fin 1024) (h : 0 ≤ (targets V (ix1 r)).toInt) :
    (res_main_call6_v5 (F := Ideal) V : Vec Ideal S1024x1x1 .i32) (ix3 r 0 0) = targets V (ix1 r) := by
  unfold res_main_call6_v5 res_main_v105
  clean_types
  pointwise []
  have e : IntOp.cmpi .slt (targets V (ix1 r)) 0#32 = 0#1 := by
    have : ¬ (targets V (ix1 r)).toInt < 0 := by omega
    simp [IntOp.cmpi, BitVec.slt, this]
  show Scalar.select (IntOp.cmpi .slt (targets V (ix1 r)) 0#32) _ _ = _
  rw [e]
  rfl

theorem call8_at (r : Fin 1024) (h : 0 ≤ (targets V (ix1 r)).toInt) :
    (res_main_call8_v5 (F := Ideal) V : Vec Ideal S1024x1x1 .i32) (ix3 r 0 0) = targets V (ix1 r) := by
  unfold res_main_call8_v5 res_main_v127
  clean_types
  pointwise []
  have e : IntOp.cmpi .slt (targets V (ix1 r)) 0#32 = 0#1 := by
    have : ¬ (targets V (ix1 r)).toInt < 0 := by omega
    simp [IntOp.cmpi, BitVec.slt, this]
  show Scalar.select (IntOp.cmpi .slt (targets V (ix1 r)) 0#32) _ _ = _
  rw [e]
  rfl

/-- The taken entry where the word is a class: the row's entry at it. -/
theorem picked_at (x : FVec Ideal S1024x1000 .f32) (idx : IVec S1024x1x1 32) (r : Fin 1024)
    (h0 : 0 ≤ (idx (ix3 r 0 0)).toInt) (h1 : (idx (ix3 r 0 0)).toInt < 1000) :
    (shapeCast S1024 (select (Host.reduce IntOp.andi (andi (cmpi .sge idx (broadcastInDim S1024x1x1 ![] bcast_S_S1024x1x1 (constantI S_ 32 0#32)))
      (cmpi .sle idx (broadcastInDim S1024x1x1 ![0, 1, 2] bcast_S1x1x1_S1024x1x1_0_1_2 (broadcastInDim S1x1x1 ![2] bcast_S1_S1x1x1_2 (constantI S1 32 999#32)))))
      (constantI S_ 1 1#1) reducesTo_S1024x1x1_S1024x1_d2 h_S_)
      (Host.gather gather_S1024x1000_S1024x1x1_S1024x1_n_1_0_0_1_2_11 x idx)
      (broadcastInDim S1024x1 ![] bcast_S_S1024x1 (constant (F := Ideal) S_ .f32 0x7FC00000#32))) shapeCasts_S1024x1_S1024 : FVec Ideal S1024 .f32) (ix1 r)
      = x (ix2 r (classOf (idx (ix3 r 0 0)))) := by
  pointwise [take_at]
  have e : IntOp.cmpi .sge (idx (ix3 r 0 0)) 0#32 = 1#1 := by simp [IntOp.cmpi, BitVec.sle, h0]
  have e' : IntOp.cmpi .sle (idx (ix3 r 0 0)) 999#32 = 1#1 := by
    have : (idx (ix3 r 0 0)).toInt ≤ 999 := by omega
    simp [IntOp.cmpi, BitVec.sle, this]
  rw [Finset.univ_unique, Finset.fold_singleton]
  show Scalar.select (IntOp.andi (IntOp.andi (IntOp.cmpi .sge (idx (ix3 r 0 0)) 0#32) (IntOp.cmpi .sle (idx (ix3 r 0 0)) 999#32)) 1#1) _ _ = _
  rw [e, e']
  rfl

/-- One cross entropy: the mean over the rows of the row's log sum less its entry at the label. -/
theorem mean_at (f : FVec Ideal S1024x1000 .f32) (m : FVec Ideal S1024x1 .f32) (idx : IVec S1024x1x1 32) (t : Fin 1024 → BitVec 32)
    (hm : ∀ r, m (ix2 r 0) = finite (rowMax fun c => f (ix2 r c))) (hi : ∀ r, idx (ix3 r 0 0) = t r)
    (h0 : ∀ r, 0 ≤ (t r).toInt) (h1 : ∀ r, (t r).toInt < 1000) (i : S_.Idx) :
    (Host.divf (Host.reduceAdd (subf (addf (Host.log (Host.reduceAdd (Host.exp (subf f (broadcastInDim S1024x1000 ![0, 1] bcast_S1024x1_S1024x1000_0_1 m)))
      (constant (F := Ideal) S_ .f32 0x00000000#32) reducesTo_S1024x1000_S1024_d1 h_S_)) (shapeCast S1024 m shapeCasts_S1024x1_S1024))
      (shapeCast S1024 (select (Host.reduce IntOp.andi (andi (cmpi .sge idx (broadcastInDim S1024x1x1 ![] bcast_S_S1024x1x1 (constantI S_ 32 0#32)))
      (cmpi .sle idx (broadcastInDim S1024x1x1 ![0, 1, 2] bcast_S1x1x1_S1024x1x1_0_1_2 (broadcastInDim S1x1x1 ![2] bcast_S1_S1x1x1_2 (constantI S1 32 999#32)))))
      (constantI S_ 1 1#1) reducesTo_S1024x1x1_S1024x1_d2 h_S_)
      (Host.gather gather_S1024x1000_S1024x1x1_S1024x1_n_1_0_0_1_2_11 f idx)
      (broadcastInDim S1024x1 ![] bcast_S_S1024x1 (constant (F := Ideal) S_ .f32 0x7FC00000#32))) shapeCasts_S1024x1_S1024))
      (constant (F := Ideal) S_ .f32 0x00000000#32) reducesTo_S1024_S_d0 h_S_) (constant (F := Ideal) S_ .f32 0x44800000#32) : FVec Ideal S_ .f32) i
      = Ideal.div (∑ r : Fin 1024, (rowLogAbout (fun c => f (ix2 r c)) - f (ix2 r (classOf (t r))))) ((1024 : ℝ) : EReal) := by
  have hp : ∀ r, _ := fun r => (picked_at f idx r (by rw [hi]; exact h0 r) (by rw [hi]; exact h1 r)).trans (by rw [hi])
  generalize (shapeCast S1024 (select (Host.reduce IntOp.andi (andi (cmpi .sge idx (broadcastInDim S1024x1x1 ![] bcast_S_S1024x1x1 (constantI S_ 32 0#32)))
      (cmpi .sle idx (broadcastInDim S1024x1x1 ![0, 1, 2] bcast_S1x1x1_S1024x1x1_0_1_2 (broadcastInDim S1x1x1 ![2] bcast_S1_S1x1x1_2 (constantI S1 32 999#32)))))
      (constantI S_ 1 1#1) reducesTo_S1024x1x1_S1024x1_d2 h_S_)
      (Host.gather gather_S1024x1000_S1024x1x1_S1024x1_n_1_0_0_1_2_11 f idx)
      (broadcastInDim S1024x1 ![] bcast_S_S1024x1 (constant (F := Ideal) S_ .f32 0x7FC00000#32))) shapeCasts_S1024x1_S1024 : FVec Ideal S1024 .f32) = w at hp ⊢
  pointwise [hp, hm, Words.rows_word]

/-- The reference's result, where every target is a class. -/
theorem result (h0 : ∀ r, 0 ≤ (targets V (ix1 r)).toInt) (h1 : ∀ r, (targets V (ix1 r)).toInt < 1000) (i : S_.Idx) :
    (val3 (F := Ideal) V (Proc.devRef .tc main_v135) : Vec Ideal S_ .f32) i
      = referenceLoss (fun r k => logits V (ix2 r k)) (fun r k => emb V (ix2 r k)) (fun r => targets V (ix1 r)) (fun k d => centers V (ix2 k d))
        (fun k => ready V (ix1 k)) (fun q d => queue V (ix2 q d)) (fun q => labels V (ix1 q)) := by
  have e1 := mean_at (res_main_v91 (F := Ideal) V) (res_main_v97 (F := Ideal) V) (res_main_call6_v5 (F := Ideal) V)
    (fun r => targets V (ix1 r)) (v97_at V) (fun r => call6_at V r (h0 r)) h0 h1 i
  have e2 := mean_at (res_main_v113 (F := Ideal) V) (res_main_v119 (F := Ideal) V) (res_main_call8_v5 (F := Ideal) V)
    (fun r => targets V (ix1 r)) (v119_at V) (fun r => call8_at V r (h0 r)) h0 h1 i
  simp only [v91_at] at e1
  simp only [v113_at] at e2
  have hv := congrFun (val3_main_v135 (F := Ideal) V) i
  refine hv.trans ?_
  refine (congrArg₂ (fun a b : EReal => Ideal.ofBits .f32 0x3F800000#32 * a + Ideal.ofBits .f32 0x3DCCCCCD#32 * b) e1 e2).trans ?_
  rw [Ideal.ofBits_one_f32]
  rfl

end Cert.ReferenceIdeal.Value

end
-- ==== Proof.Value.Rows.lean ====
/- Rows over the extended reals: a row over its norm is real, and the cross entropy of a row. -/
module

public import proofs.«01_k».proof.Proof.Value.Words
public import proofs.«01_k».proof.Proof.Value.Forms

@[expose] public section

noncomputable section

namespace Cert.Rows

open Idealize.ShloMosaic Cert.Forms

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := EReal.coe_strictMono.monotone.map_max

theorem sq_nonneg' (x : EReal) : 0 ≤ x * x := by
  induction x with
  | bot => simp
  | top => simp
  | coe r => rw [← EReal.coe_mul]; exact_mod_cast mul_self_nonneg r

theorem sq_top {x : EReal} (h : ∀ r : ℝ, x ≠ r) : x * x = ⊤ := by
  induction x with
  | bot => simp
  | top => simp
  | coe r => exact absurd rfl (h r)

/-- A row whose sum of squares is not infinite is real. -/
theorem real_of_sum {n : ℕ} (x : Fin n → EReal) (h : ∑ k, x k * x k ≠ ⊤) : ∃ a : Fin n → ℝ, x = fun k => (a k : EReal) := by
  have : ∀ k, ∃ r : ℝ, x k = r := fun k => by
    by_contra hc
    have h1 : x k * x k = ⊤ := sq_top (fun r hr => hc ⟨r, hr⟩)
    refine h (top_le_iff.1 ?_)
    rw [← h1]
    exact Finset.single_le_sum (f := fun k => x k * x k) (fun i _ => sq_nonneg' (x i)) (Finset.mem_univ k)
  choose a ha using this
  exact ⟨a, funext ha⟩

/-- A row over its norm is a real row whose squares sum to at most one. -/
theorem unit_real (x : Fin 64 → EReal) : ∃ y : Fin 64 → ℝ, (∀ d, unit x d = (y d : EReal))
    ∧ (∀ (K : ℝ) d, scaled x K d = ((y d * K : ℝ) : EReal)) ∧ ∑ d, y d * y d ≤ 1 := by
  obtain ⟨e, he, hw⟩ := Words.norm_word
  by_cases h : ∑ k, x k * x k = ⊤
  · have hn : Forms.norm x = ⊤ := by rw [Forms.norm, h]; simp
    refine ⟨fun _ => 0, fun d => ?_, fun K d => ?_, by simp⟩
    · rw [unit, hn]; simp [Ideal.div]
    · rw [scaled, hn]; simp [Ideal.div]
  · obtain ⟨a, rfl⟩ := real_of_sum x h
    have hs : ∑ k : Fin 64, (a k : EReal) * (a k : EReal) = ((∑ k, a k * a k : ℝ) : EReal) := by
      rw [coe_sum]; simp only [EReal.coe_mul]
    have h0 : 0 ≤ ∑ k, a k * a k := Finset.sum_nonneg fun k _ => mul_self_nonneg _
    have hn : Forms.norm (fun k => (a k : EReal)) = ((max (Real.sqrt (∑ k, a k * a k)) e : ℝ) : EReal) := by
      rw [Forms.norm, hs, Ideal.sqrt_coe, if_neg (not_lt.2 h0), leastNorm, hw, coe_max]
    have hpos : 0 < max (Real.sqrt (∑ k, a k * a k)) e := lt_max_of_lt_right he
    refine ⟨fun d => a d * (1 / max (Real.sqrt (∑ k, a k * a k)) e), fun d => ?_, fun K d => ?_, ?_⟩
    · rw [unit, hn, Ideal.div_coe hpos.ne', ← EReal.coe_mul]
    · rw [scaled, hn, Ideal.div_coe hpos.ne', ← EReal.coe_mul, ← EReal.coe_mul]
      congr 1; ring
    · generalize hN : max (Real.sqrt (∑ k, a k * a k)) e = N at hpos
      have e1 : ∑ d, a d * (1 / N) * (a d * (1 / N)) = (∑ d, a d * a d) / (N * N) := by
        rw [Finset.sum_div]; refine Finset.sum_congr rfl fun d _ => ?_; field_simp
      rw [e1, div_le_one (mul_pos hpos hpos)]
      have h1 : Real.sqrt (∑ k, a k * a k) ≤ N := hN ▸ le_max_left _ _
      calc ∑ k, a k * a k = Real.sqrt (∑ k, a k * a k) * Real.sqrt (∑ k, a k * a k) := (Real.mul_self_sqrt h0).symm
        _ ≤ N * N := mul_self_le_mul_self (Real.sqrt_nonneg _) h1

/-- The inner product of two real rows is at most the bound of their squares. -/
theorem inner_bound (y z : Fin 64 → ℝ) (hy : ∑ d, y d * y d ≤ 1) (hz : ∑ d, z d * z d ≤ 4) : |∑ d, y d * z d| ≤ 2 := by
  have h := Finset.sum_mul_sq_le_sq_mul_sq Finset.univ y z
  simp only [sq] at h
  have h1 : 0 ≤ ∑ d, z d * z d := Finset.sum_nonneg fun k _ => mul_self_nonneg _
  refine abs_le_of_sq_le_sq (a := ∑ d, y d * z d) (b := 2) ?_ (by norm_num)
  nlinarith

theorem temp_eq : temp = ((7 / 100 : ℝ) : EReal) := by
  rw [temp, Ideal.div_coe (by norm_num), ← EReal.coe_mul]; norm_num

theorem over_temp (p : ℝ) : Ideal.div (p : EReal) temp = ((p * (100 / 7) : ℝ) : EReal) := by
  rw [temp_eq, Ideal.div_coe (by norm_num), ← EReal.coe_mul]; norm_num

/-- A queue row against a feature row: the similarity and the kernel's weight, from one bounded real. -/
theorem near_pull (x q : Fin 64 → EReal) (hq : ∑ d, q d * q d ≤ ((4 : ℝ) : EReal)) :
    ∃ p : ℝ, |p| ≤ 2 ∧ near x q = ((p * (100 / 7) : ℝ) : EReal) ∧ pull x q = ((Real.exp ((p - 1) * (100 / 7)) : ℝ) : EReal) := by
  obtain ⟨y, h1, h2, h3⟩ := unit_real x
  obtain ⟨z, rfl⟩ := real_of_sum q (ne_of_lt (lt_of_le_of_lt hq (EReal.coe_lt_top _)))
  have hz : ∑ d, z d * z d ≤ 4 := by
    have : ((∑ d, z d * z d : ℝ) : EReal) ≤ ((4 : ℝ) : EReal) := by
      rw [coe_sum]; simpa only [EReal.coe_mul] using hq
    exact_mod_cast this
  refine ⟨∑ d, y d * z d, inner_bound y z h3 hz, ?_, ?_⟩
  · have e : ∑ d : Fin 64, unit x d * (z d : EReal) = ((∑ d, y d * z d : ℝ) : EReal) := by
      rw [coe_sum]; simp only [h1, EReal.coe_mul]
    rw [near, e, over_temp]
  · have e : ∑ d : Fin 64, scaled x scaleE d * (z d : EReal) = (((∑ d, y d * z d) * (100 / 7 * (Real.log 2)⁻¹) : ℝ) : EReal) := by
      rw [Finset.sum_mul, coe_sum]
      refine Finset.sum_congr rfl fun d _ => ?_
      rw [scaleE, h2, ← EReal.coe_mul]
      congr 1; ring
    rw [pull, e, scaleE, ← EReal.coe_sub, Ideal.exp2_coe]
    congr 1
    rw [Real.rpow_eq_pow, Real.rpow_def_of_pos (by norm_num)]
    congr 1
    have : Real.log 2 ≠ 0 := (Real.log_pos (by norm_num)).ne'
    field_simp

/-- The two center logits agree and are real. -/
theorem center_logit (x c : Fin 64 → EReal) (b : BitVec 1) : ∃ a : ℝ, centerLogit x c b = (a : EReal)
    ∧ (∑ d : Fin 64, unit x d * unit (fun k => c k * (((b).toNat : ℝ) : EReal)) d) * invTemp = (a : EReal) := by
  obtain ⟨y, h1, -, -⟩ := unit_real x
  have hb : b = 1#1 ∨ b = 0#1 := by
    revert b; decide
  rcases hb with rfl | rfl
  · obtain ⟨z, g1, -, -⟩ := unit_real c
    have e : ∑ d : Fin 64, unit x d * unit c d = ((∑ d, y d * z d : ℝ) : EReal) := by
      rw [coe_sum]; simp only [h1, g1, EReal.coe_mul]
    refine ⟨(∑ d, y d * z d) * (100 / 7), ?_, ?_⟩
    · rw [centerLogit, if_pos rfl, e, over_temp]
    · have : (fun k => c k * (((1#1 : BitVec 1).toNat : ℝ) : EReal)) = c := by
        funext k; simp
      rw [this, e, invTemp, ← EReal.coe_mul]
  · refine ⟨0, by rw [centerLogit, if_neg (by decide)]; simp, ?_⟩
    have : (fun k => c k * (((0#1 : BitVec 1).toNat : ℝ) : EReal)) = fun _ => 0 := by
      funext k; simp
    rw [this]
    obtain ⟨e, he, hw⟩ := Words.norm_word
    have hu : ∀ d, unit (fun _ => 0) d = 0 := fun d => by
      rw [unit, Forms.norm, leastNorm, hw]
      have : max (Ideal.sqrt (∑ k : Fin 64, (0 : EReal) * 0)) (e : EReal) = (e : EReal) := by
        have : Ideal.sqrt (∑ k : Fin 64, (0 : EReal) * 0) = ((0 : ℝ) : EReal) := by
          have h0 : (∑ k : Fin 64, (0 : EReal) * 0) = ((0 : ℝ) : EReal) := by simp
          rw [h0, Ideal.sqrt_coe]; simp
        rw [this, ← coe_max, max_eq_right he.le]
      rw [this, Ideal.div_coe he.ne']; simp
    simp [hu]

/-- Two real log values joined either way. -/
theorem joined_eq (a b : ℝ) : joined (a : EReal) (b : EReal) = joinedAbout a b ∧ ∃ w : ℝ, joinedAbout (a : EReal) (b : EReal) = w := by
  have hl : ∀ t : ℝ, Ideal.log (1 + Ideal.exp ((t : ℝ) : EReal)) = ((Real.log (1 + Real.exp t) : ℝ) : EReal) := fun t => by
    have h1 : (1 : EReal) + Ideal.exp (t : EReal) = ((1 + Real.exp t : ℝ) : EReal) := by
      rw [Ideal.exp_coe, EReal.coe_add]; rfl
    rw [h1, Ideal.log_coe, if_neg (not_le.2 (by positivity))]
  have hd : -(max ((a : EReal) - b) (-((a : EReal) - b))) = ((-|a - b| : ℝ) : EReal) := by
    rw [← EReal.coe_sub, ← EReal.coe_neg, ← coe_max, ← EReal.coe_neg]; rfl
  have hr : joinedAbout (a : EReal) (b : EReal) = ((max a b + Real.log (1 + Real.exp (-|a - b|)) : ℝ) : EReal) := by
    rw [joinedAbout, hd, hl, ← coe_max, ← EReal.coe_add]
  refine ⟨?_, _, hr⟩
  rw [hr, joined, ← coe_max, ← EReal.coe_sub, ← EReal.coe_sub, Ideal.exp_coe, Ideal.exp_coe, ← EReal.coe_add, Ideal.log_coe,
    if_neg (not_le.2 (by positivity)), ← EReal.coe_add]
  congr 3
  rcases le_total a b with h | h
  · rw [max_eq_right h, abs_of_nonpos (by linarith)]
    simp [add_comm]
  · rw [max_eq_left h, abs_of_nonneg (by linarith)]
    simp

theorem finite_real (z : EReal) : ∃ r : ℝ, finite z = r := by
  unfold finite
  split
  · next h =>
    obtain ⟨h1, h2⟩ := max_lt_iff.1 h
    induction z with
    | bot => simp at h2
    | top => simp at h1
    | coe r => exact ⟨r, rfl⟩
  · exact ⟨0, rfl⟩

theorem finite_le (z : EReal) {B : ℝ} (hB : 0 ≤ B) (h : z ≤ B) : ∃ r : ℝ, r ≤ B ∧ finite z = r := by
  obtain ⟨r, hr⟩ := finite_real z
  refine ⟨r, ?_, hr⟩
  have : finite z ≤ (B : EReal) := by
    unfold finite
    split
    · exact h
    · exact_mod_cast hB
  rw [hr] at this
  exact_mod_cast this

/-- The log of a positive sum of weights about a real shift. -/
theorem log_shift (G : ℝ) (hG : 0 < G) (m : ℝ) : Ideal.log ((G * Real.exp (-m) : ℝ) : EReal) + (m : EReal) = ((Real.log G : ℝ) : EReal) := by
  rw [Ideal.log_coe, if_neg (not_le.2 (by positivity)), ← EReal.coe_add, Real.log_mul hG.ne' (Real.exp_pos _).ne', Real.log_exp]
  congr 1; ring

/-- The real exponential of an entry that is not infinite above. -/
theorem exp_entry (x : EReal) (h : x ≠ ⊤) : ∃ g : ℝ, 0 ≤ g ∧ (x ≠ ⊥ → 0 < g) ∧ (x = ⊥ → g = 0) ∧
    ∀ m : ℝ, Ideal.exp (x - m) = ((g * Real.exp (-m) : ℝ) : EReal) := by
  induction x with
  | bot => exact ⟨0, le_rfl, fun h => absurd rfl h, fun _ => rfl, fun m => by simp⟩
  | top => exact absurd rfl h
  | coe r => exact ⟨Real.exp r, (Real.exp_pos r).le, fun _ => Real.exp_pos r, fun h => absurd h (EReal.coe_ne_bot r), fun m => by
      rw [← EReal.coe_sub, Ideal.exp_coe, ← Real.exp_add]; rfl⟩

theorem sub_sub' (x : EReal) (p m : ℝ) : x - (p : EReal) - (m : EReal) = x - ((p + m : ℝ) : EReal) := by
  induction x with
  | bot => simp
  | top => rw [EReal.top_sub_coe, EReal.top_sub_coe, EReal.top_sub_coe]
  | coe r => simp only [← EReal.coe_sub]; congr 1; ring

theorem prior_real : ∃ p : ℝ, evenPrior = p := by
  obtain ⟨n, hn0, hn⟩ : ∃ n : ℝ, n ≠ 0 ∧ Ideal.ofBits .f32 0x447A0000#32 = n := by
    refine ⟨_, ?_, by simp [Ideal.ofBits, Ideal.ieee]; rfl⟩
    positivity
  obtain ⟨f, hf0, hf⟩ : ∃ f : ℝ, 0 < f ∧ Ideal.ofBits .f32 0x322BCC77#32 = f := by
    refine ⟨_, ?_, by simp [Ideal.ofBits, Ideal.ieee]; rfl⟩
    positivity
  refine ⟨Real.log (max (1 / n) f), ?_⟩
  rw [evenPrior, hn, hf, Ideal.div_coe hn0, one_mul, one_mul, ← coe_max, Ideal.log_coe,
    if_neg (not_le.2 (lt_max_of_lt_right hf0))]

theorem pick_eq (f : Fin 1000 → EReal) (t : BitVec 32) (h0 : 0 ≤ t.toInt) (h1 : t.toInt < 1000) : rowPick f t = f (classOf t) := by
  have hc : ∀ c : Fin 1000, (t = BitVec.ofNat 32 c.val) ↔ classOf t = c := fun c => by
    have hl := c.isLt
    have ht : t.toInt.toNat = t.toNat := by
      rw [BitVec.toInt_eq_toNat_of_lt (by by_contra hx; rw [BitVec.toInt_eq_toNat_cond, if_neg hx] at h0; have := t.isLt; omega)]; rfl
    have ht2 : t.toNat < 1000 := by omega
    constructor
    · intro e
      refine Fin.ext ?_
      show min t.toInt.toNat 999 = c.val
      rw [ht, e, BitVec.toNat_ofNat]; omega
    · intro e
      have e' : min t.toInt.toNat 999 = c.val := congrArg Fin.val e
      refine BitVec.eq_of_toNat_eq ?_
      rw [BitVec.toNat_ofNat]; omega
  simp only [rowPick, hc]
  rw [Finset.sum_ite_eq]
  simp

/-- The cross entropy of a row with no entry infinite above: the even prior cancels. -/
theorem row_eq (f : Fin 1000 → EReal) (hf : ∀ c, f c ≠ ⊤) (t : BitVec 32) (h0 : 0 ≤ t.toInt) (h1 : t.toInt < 1000) :
    rowLog f - rowPick f t = rowLoss f t := by
  rw [pick_eq f t h0 h1]
  obtain ⟨p, hp⟩ := prior_real
  obtain ⟨m, hm⟩ := finite_real (rowMax fun c => f c - evenPrior)
  rw [rowLoss, rowLogAbout, hm, hp]
  choose g hg0 hgp hgb hg using fun c => exp_entry (f c) (hf c)
  have e2 : ∑ c : Fin 1000, Ideal.exp (f c - (p : EReal) - (m : EReal)) = (((∑ c, g c) * Real.exp (-(p + m)) : ℝ) : EReal) := by
    rw [Finset.sum_mul, coe_sum]
    exact Finset.sum_congr rfl fun c _ => by rw [sub_sub', hg]
  rw [e2]
  by_cases hall : ∀ c, f c = ⊥
  · have hmax : rowLog f = ⊥ := by
      have : rowMax f = ⊥ := by
        refine le_bot_iff.1 ?_
        exact (Finset.fold_max_le ⊥).2 ⟨le_rfl, fun c _ => (hall c).le⟩
      rw [rowLog, this]; simp
    rw [hmax, hall]
    have : ∑ c, g c = 0 := Finset.sum_eq_zero fun c _ => hgb c (hall c)
    rw [this, zero_mul, Ideal.log_coe, if_pos le_rfl]
    simp
  · obtain ⟨c0, hc0⟩ := not_forall.1 hall
    have hG : 0 < ∑ c, g c := Finset.sum_pos' (fun c _ => hg0 c) ⟨c0, Finset.mem_univ _, hgp c0 hc0⟩
    obtain ⟨M, hM⟩ : ∃ M : ℝ, rowMax f = M := by
      have hb : rowMax f ≠ ⊥ := fun h => hc0 (le_bot_iff.1 (((Finset.fold_max_le (b := ⊥) (f := f) (s := Finset.univ) ⊥).1 h.le).2 c0 (Finset.mem_univ _)))
      have ht : rowMax f ≠ ⊤ := by
        refine ne_of_lt ?_
        exact (Finset.fold_max_lt ⊤).2 ⟨bot_lt_top, fun c _ => lt_top_iff_ne_top.2 (hf c)⟩
      exact ⟨(rowMax f).toReal, (EReal.coe_toReal ht hb).symm⟩
    have e1 : ∑ c : Fin 1000, Ideal.exp (f c - (M : EReal)) = (((∑ c, g c) * Real.exp (-M) : ℝ) : EReal) := by
      rw [Finset.sum_mul, coe_sum]
      exact Finset.sum_congr rfl fun c _ => hg c M
    rw [rowLog, hM, e1, log_shift _ hG, Ideal.log_coe, if_neg (not_le.2 (by positivity)), ← EReal.coe_add,
      Real.log_mul hG.ne' (Real.exp_pos _).ne', Real.log_exp]
    have ht := hf (classOf t)
    generalize f (classOf t) = z at ht
    induction z with
    | bot => simp [EReal.bot_sub]
    | top => exact absurd rfl ht
    | coe r => simp only [← EReal.coe_sub]; congr 1; ring

end Cert.Rows

end
-- ==== Proof.Value.Maths.lean ====
/- The kernel's result is the reference's, over the extended reals. -/
module

public import proofs.«01_k».proof.Proof.Value.Rows

@[expose] public section

noncomputable section

namespace Cert.Maths

open Idealize.ShloMosaic Cert.Forms Cert.Rows

/-- A label is a class exactly when its segment is. -/
theorem label_iff (l : BitVec 32) (c : ℕ) (hc : c < 1000) : l = BitVec.ofNat 32 c ↔ (Forms.segment l).toInt = (c : ℤ) := by
  have hn : (BitVec.ofNat 32 c).toInt = (c : ℤ) := by
    rw [BitVec.toInt_eq_toNat_of_lt (by rw [BitVec.toNat_ofNat]; omega), BitVec.toNat_ofNat]; omega
  constructor
  · rintro rfl
    rw [Forms.segment, if_pos (by rw [hn]; omega), hn]
  · intro h
    unfold Forms.segment at h
    split at h
    · exact BitVec.eq_of_toInt_eq (h.trans hn.symm)
    · have : (1000#32 : BitVec 32).toInt = 1000 := by decide
      omega

theorem member_valid (la : Fin 65536 → BitVec 32) (c : ℕ) (hc : c < 1000) (q : Fin 65536) (h : q ∈ members la c) : valid (la q) = 1 := by
  have h' := (Finset.mem_filter.1 h).2
  unfold valid
  unfold Forms.segment at h'
  split at h'
  · next h0 => rw [if_pos h0]
  · have : (1000#32 : BitVec 32).toInt = 1000 := by decide
    omega

theorem sum_one {ι : Type*} (s : Finset ι) : ∑ _q ∈ s, (1 : EReal) = ((s.card : ℝ) : EReal) := by
  simp

/-- A sum of hits is a sum over the class's rows. -/
theorem sum_hit (la : Fin 65536 → BitVec 32) (c : ℕ) (hc : c < 1000) (f : Fin 65536 → EReal) :
    ∑ q, f q * hit (la q) c = ∑ q ∈ members la c, f q := by
  rw [members, Finset.sum_filter]
  refine Finset.sum_congr rfl fun q _ => ?_
  rw [hit]
  by_cases h : la q = BitVec.ofNat 32 c
  · rw [if_pos h, if_pos ((label_iff _ c hc).1 h), mul_one]
  · rw [if_neg h, if_neg fun h' => h ((label_iff _ c hc).2 h'), mul_zero]

/-- Two to the minus ninety-nine is below a power of e. -/
theorem small_exp : (1 / 2 ^ 99 : ℝ) ≤ Real.exp (-(400 / 7)) := by
  have h : (3 / 4 : ℝ) ≤ Real.exp (-(1 / 4)) := by
    have := Real.add_one_le_exp (-(1 / 4) : ℝ)
    linarith
  calc (1 / 2 ^ 99 : ℝ) ≤ (3 / 4) ^ 229 := by norm_num
    _ ≤ Real.exp (-(1 / 4)) ^ 229 := pow_le_pow_left₀ (by norm_num) h _
    _ = Real.exp (229 * -(1 / 4)) := by rw [← Real.exp_nat_mul]; norm_num
    _ ≤ Real.exp (-(400 / 7)) := Real.exp_le_exp.2 (by norm_num)

/-- The class log density either way is one real. -/
theorem density_eq (x : Fin 64 → EReal) (qu : Fin 65536 → Fin 64 → EReal) (la : Fin 65536 → BitVec 32)
    (hq : ∀ q, ∑ d, qu q d * qu q d ≤ ((4 : ℝ) : EReal)) (c : Fin 1000) :
    ∃ w : ℝ, density (∑ q : Fin 65536, pull x (qu q) * hit (la q) c.val) (∑ q : Fin 65536, 1 * hit (la q) c.val) = w
      ∧ queueLogit x qu la c.val = w := by
  obtain ⟨e, he0, he1, hw⟩ := Words.floor_word
  choose p hp hn hk using fun q => near_pull x (qu q) (hq q)
  have hup : peak x qu la ≤ ((200 / 7 : ℝ) : EReal) := by
    refine (Finset.fold_max_le _).2 ⟨bot_le, fun q _ => ?_⟩
    split
    · rw [hn]
      have := (abs_le.1 (hp q)).2
      exact_mod_cast (by linarith : p q * (100 / 7) ≤ 200 / 7)
    · exact bot_le
  obtain ⟨m, hm, hs⟩ := finite_le (peak x qu la) (by norm_num) hup
  have hcnt : ∑ q : Fin 65536, 1 * hit (la q) c.val = (((members la c.val).card : ℝ) : EReal) := by
    rw [sum_hit la c.val c.isLt fun _ => 1, sum_one]
  have hcnt' : ∑ q ∈ members la c.val, valid (la q) = (((members la c.val).card : ℝ) : EReal) := by
    rw [Finset.sum_congr rfl fun q h => member_valid la c.val c.isLt q h, sum_one]
  have hsum : ∑ q : Fin 65536, pull x (qu q) * hit (la q) c.val
      = (((∑ q ∈ members la c.val, Real.exp (p q * (100 / 7))) * Real.exp (-(100 / 7)) : ℝ) : EReal) := by
    rw [sum_hit la c.val c.isLt, Finset.sum_mul, coe_sum]
    refine Finset.sum_congr rfl fun q _ => ?_
    rw [hk, ← Real.exp_add]
    exact congrArg (fun t : ℝ => ((Real.exp t : ℝ) : EReal)) (by ring)
  have hsum' : ∑ q ∈ members la c.val, Ideal.exp (near x (qu q) - shift x qu la) * valid (la q)
      = (((∑ q ∈ members la c.val, Real.exp (p q * (100 / 7))) * Real.exp (-m) : ℝ) : EReal) := by
    rw [Finset.sum_mul, coe_sum]
    refine Finset.sum_congr rfl fun q h => ?_
    rw [member_valid la c.val c.isLt q h, mul_one, shift, hs, hn, ← EReal.coe_sub, Ideal.exp_coe, ← Real.exp_add, sub_eq_add_neg]
  rw [hcnt, hsum, queueLogit, hcnt', hsum', shift, hs]
  generalize hM : members la c.val = M
  unfold density densityAbout
  rcases M.eq_empty_or_nonempty with hE | ⟨q0, h0⟩
  · refine ⟨0, ?_, ?_⟩
    · rw [hE]; simp
    · rw [hE]; simp
  · have hcard : 0 < (M.card : ℝ) := by exact_mod_cast Finset.card_pos.2 ⟨q0, h0⟩
    have hpos : (0 : EReal) < ((M.card : ℝ) : EReal) := by exact_mod_cast hcard
    have hG : Real.exp (-(200 / 7)) ≤ ∑ q ∈ M, Real.exp (p q * (100 / 7)) := by
      refine le_trans ?_ (Finset.single_le_sum (f := fun q => Real.exp (p q * (100 / 7))) (fun q _ => (Real.exp_pos _).le) h0)
      refine Real.exp_le_exp.2 ?_
      have := (abs_le.1 (hp q0)).1
      linarith
    generalize (∑ q ∈ M, Real.exp (p q * (100 / 7))) = G at hG
    have hG0 : 0 < G := lt_of_lt_of_le (Real.exp_pos _) hG
    have hb : ∀ k : ℝ, k ≤ 200 / 7 → max ((G * Real.exp (-k) : ℝ) : EReal) leastSum = ((G * Real.exp (-k) : ℝ) : EReal) := fun k hk => by
      rw [leastSum, hw, ← coe_max, max_eq_left]
      refine he1.trans (small_exp.trans ?_)
      calc Real.exp (-(400 / 7)) ≤ Real.exp (-(200 / 7)) * Real.exp (-k) := by
            rw [← Real.exp_add]; refine Real.exp_le_exp.2 ?_; linarith
        _ ≤ G * Real.exp (-k) := by gcongr
    refine ⟨Real.log G - Real.log (max (M.card : ℝ) 1), ?_, ?_⟩
    all_goals
      rw [if_pos hpos]
      have h1 : Ideal.log (max ((M.card : ℝ) : EReal) 1) = ((Real.log (max (M.card : ℝ) 1) : ℝ) : EReal) := by
        have : max ((M.card : ℝ) : EReal) 1 = ((max (M.card : ℝ) 1 : ℝ) : EReal) := by rw [coe_max]; rfl
        rw [this, Ideal.log_coe, if_neg (not_le.2 (lt_max_of_lt_left hcard))]
      rw [h1]
    · rw [hb _ (by norm_num), invTemp, log_shift G hG0, EReal.coe_sub]
    · rw [hb _ hm, log_shift G hG0, EReal.coe_sub]

/-- The two priors are one row of reals. -/
theorem prior_eq (x : Fin 64 → EReal) (ce : Fin 1000 → Fin 64 → EReal) (rd : Fin 1000 → BitVec 1)
    (qu : Fin 65536 → Fin 64 → EReal) (la : Fin 65536 → BitVec 32) (hq : ∀ q, ∑ d, qu q d * qu q d ≤ ((4 : ℝ) : EReal)) :
    kernelPrior x ce rd qu la = referencePrior x ce rd qu la ∧ ∀ c, referencePrior x ce rd qu la c ≠ ⊤ := by
  have h : ∀ c, kernelPrior x ce rd qu la c = referencePrior x ce rd qu la c ∧ referencePrior x ce rd qu la c ≠ ⊤ := fun c => by
    obtain ⟨a, ha, ha'⟩ := center_logit x (ce c) (rd c)
    obtain ⟨w, hw, hw'⟩ := density_eq x qu la hq c
    obtain ⟨h1, v, h2⟩ := joined_eq a w
    unfold kernelPrior referencePrior
    rw [ha, ha', hw, hw', h1]
    exact ⟨rfl, by rw [h2]; exact EReal.coe_ne_top v⟩
  exact ⟨funext fun c => (h c).1, fun c => (h c).2⟩

/-- The kernel's result is the reference's. -/
theorem loss_eq (lg : Fin 1024 → Fin 1000 → EReal) (em : Fin 1024 → Fin 64 → EReal) (tg : Fin 1024 → BitVec 32)
    (ce : Fin 1000 → Fin 64 → EReal) (rd : Fin 1000 → BitVec 1) (qu : Fin 65536 → Fin 64 → EReal) (la : Fin 65536 → BitVec 32)
    (h0 : ∀ r, 0 ≤ (tg r).toInt) (h1 : ∀ r, (tg r).toInt < 1000) (hl : ∀ r c, lg r c < ⊤)
    (hq : ∀ q, ∑ d, qu q d * qu q d ≤ ((4 : ℝ) : EReal)) :
    kernelLoss lg em tg ce rd qu la = referenceLoss lg em tg ce rd qu la := by
  unfold kernelLoss referenceLoss
  rw [Ideal.div_coe (by norm_num), Ideal.div_coe (by norm_num), one_mul]
  have e1 : ∀ r, rowLog (lg r) - rowPick (lg r) (tg r) = rowLoss (lg r) (tg r) := fun r =>
    row_eq _ (fun c => (hl r c).ne) _ (h0 r) (h1 r)
  have e2 : ∀ r, rowLog (kernelPrior (em r) ce rd qu la) - rowPick (kernelPrior (em r) ce rd qu la) (tg r)
      = rowLoss (referencePrior (em r) ce rd qu la) (tg r) := fun r => by
    obtain ⟨p1, p2⟩ := prior_eq (em r) ce rd qu la hq
    rw [p1]
    exact row_eq _ p2 _ (h0 r) (h1 r)
  rw [Finset.sum_congr rfl fun r _ => e1 r, Finset.sum_congr rfl fun r _ => e2 r]

end Cert.Maths

end
-- ==== Proof.Value.Claims.lean ====
/- The value claim: the kernel's result is the reference's, under the precondition. -/
module

public import proofs.«01_k».proof.Proof.Value.Frames
public import proofs.«01_k».proof.Proof.Value.Pre
public import proofs.«01_k».proof.Proof.Value.Result
public import proofs.«01_k».proof.Proof.Value.Reference
public import proofs.«01_k».proof.Proof.Value.Maths

@[expose] public section

noncomputable section

namespace Cert.Proof

open Idealize.ShloMosaic Idealize.ShloMosaic.StableHlo Idealize.SL.Sem

attribute [local instance] Cert.Kernel.Gen.facts Cert.KernelIdeal.Gen.facts Cert.ReferenceIdeal.Gen.facts Cert.Pre_in_range.Gen.facts

theorem frame_ideal_pre : Cert.quiescent_KernelIdeal_pre_in_range := fun m g _ =>
  (θ_run Cert.KernelIdeal.defs _ _).mono (fun _ h => ⟨fun c => seven (h.1 c).2, h.2⟩) (Cert.KernelIdeal.Hand.ends m g)

theorem frame_reference_pre : Cert.quiescent_ReferenceIdeal_pre_in_range := fun m g _ =>
  (θ_run Cert.ReferenceIdeal.defs _ _).mono (fun r h => ⟨fun c => (h c).2, sem_eq_zero_of_no_sems (by decide) r.2⟩)
    (Cert.ReferenceIdeal.Value.run (F := Ideal) m g)

/-- On every device the two programs' results agree, from equal arguments in range. -/
theorem results_agree (m : (ℓ : Loc Cert.KernelIdeal.nD Cert.KernelIdeal.τ Cert.KernelIdeal.sig) → Buf (Elt Ideal) ℓ)
    (g : Dev Cert.KernelIdeal.nD → PrngReg) (V : Valuation Cert.ReferenceIdeal.τ Cert.ReferenceIdeal.sig (Elt Ideal))
    (c : Dev Cert.KernelIdeal.nD)
    (hpre : Cert.Pre_in_range.fn (F := Ideal) (Cert.KernelIdeal.Hand.logits m c) (Cert.KernelIdeal.Hand.emb m c) (Cert.KernelIdeal.Hand.targets m c)
      (Cert.KernelIdeal.Hand.centers m c) (Cert.KernelIdeal.Hand.ready m c) (Cert.KernelIdeal.Hand.queue m c) (Cert.KernelIdeal.Hand.labels m c)
      = fun _ => 1#1)
    (h0 : Cert.ReferenceIdeal.Value.logits V = Cert.KernelIdeal.Hand.logits m c)
    (h1 : Cert.ReferenceIdeal.Value.emb V = Cert.KernelIdeal.Hand.emb m c)
    (h2 : Cert.ReferenceIdeal.Value.targets V = Cert.KernelIdeal.Hand.targets m c)
    (h3 : Cert.ReferenceIdeal.Value.centers V = Cert.KernelIdeal.Hand.centers m c)
    (h4 : Cert.ReferenceIdeal.Value.ready V = Cert.KernelIdeal.Hand.ready m c)
    (h5 : Cert.ReferenceIdeal.Value.queue V = Cert.KernelIdeal.Hand.queue m c)
    (h6 : Cert.ReferenceIdeal.Value.labels V = Cert.KernelIdeal.Hand.labels m c) :
    (Cert.ReferenceIdeal.Value.val3 (F := Ideal) V (Proc.devRef .tc Cert.ReferenceIdeal.main_v135) : Vec Ideal Cert.ReferenceIdeal.S_ .f32)
      = (Cert.KernelIdeal.Hand.at4 (F := Ideal) m g c (Proc.devRef .tc Cert.KernelIdeal.main_v9) : Vec Ideal Cert.KernelIdeal.S_ .f32) := by
  obtain ⟨p0, p1, p2, p3⟩ := decoded _ _ _ _ _ _ _ hpre
  funext i
  refine (Cert.ReferenceIdeal.Value.result V (fun r => ?_) (fun r => ?_) i).trans ?_
  · rw [h2]; exact p0 r
  · rw [h2]; exact p1 r
  · rw [h0, h1, h2, h3, h4, h5, h6]
    refine (Cert.Maths.loss_eq _ _ _ _ _ _ _ p0 p1 p2 p3).symm.trans ?_
    exact (Cert.KernelIdeal.Hand.result m g c i).symm

theorem algebraic : Cert.algebraic_KernelIdeal_ReferenceIdeal_pre_in_range := fun m g m' g' hpre hargs =>
  ⟨fun c => Cert.KernelIdeal.Hand.at4 (F := Ideal) m g c (Proc.devRef .tc Cert.KernelIdeal.main_v9),
    (θ_run Cert.KernelIdeal.defs _ _).mono (fun _ h c => ⟨(h.1 c).1, seven (h.1 c).2⟩) (Cert.KernelIdeal.Hand.ends m g),
    (θ_run Cert.ReferenceIdeal.defs _ _).mono (fun _ h c => ⟨by
        obtain ⟨e0, e1, e2, e3, e4, e5, e6⟩ := hargs c
        refine (h c).1.trans ((Cert.ReferenceIdeal.Value.val3_main_v135 (F := Ideal) (launchContents m' c)).symm.trans ?_)
        exact results_agree m g (launchContents m' c) c (hpre c) e0 e1 e2 e3 e4 e5 e6, (h c).2⟩)
      (Cert.ReferenceIdeal.Value.run (F := Ideal) m' g')⟩

end Cert.Proof

end
-- ==== Proof.lean ====
/- The certificate. -/
module

public import proofs.«01_k».proof.Defs
public import proofs.«01_k».proof.Proof.Value.Claims

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frame_kernel, frame_ideal, frame_ideal_pre, frame_reference, frame_reference_pre, named, algebraic⟩

end Cert.Proof

end
